-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_in_range [hPre_in_range : Cert.Pre_in_range.Facts] (m : (ℓ : Loc Cert.KernelIdeal.nD Cert.KernelIdeal.τ Cert.KernelIdeal.sig) → Buf (Elt Ideal) ℓ) : Prop :=
  ∀ c : Dev Cert.KernelIdeal.nD,
    (Cert.Pre_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_in_range [hPre_in_range : Cert.Pre_in_range.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_in_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_KernelIdeal_pre_in_range [hKernelIdeal : Cert.KernelIdeal.Facts] [hPre_in_range : Cert.Pre_in_range.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_in_range m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_ReferenceIdeal_pre_in_range [hReferenceIdeal : Cert.ReferenceIdeal.Facts] [hPre_in_range : Cert.Pre_in_range.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_in_range m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def preserves_Kernel_KernelIdeal : Prop :=
  True

def algebraic_KernelIdeal_ReferenceIdeal_pre_in_range [hKernelIdeal : Cert.KernelIdeal.Facts] [hReferenceIdeal : Cert.ReferenceIdeal.Facts] [hPre_in_range : Cert.Pre_in_range.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_in_range m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v11) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_in_range : Cert.Pre_in_range.Facts),
    quiescent_Kernel (hKernel := hKernel)
    ∧ quiescent_KernelIdeal (hKernelIdeal := hKernelIdeal)
    ∧ quiescent_KernelIdeal_pre_in_range (hKernelIdeal := hKernelIdeal) (hPre_in_range := hPre_in_range)
    ∧ quiescent_ReferenceIdeal (hReferenceIdeal := hReferenceIdeal)
    ∧ quiescent_ReferenceIdeal_pre_in_range (hReferenceIdeal := hReferenceIdeal) (hPre_in_range := hPre_in_range)
    ∧ preserves_Kernel_KernelIdeal
    ∧ algebraic_KernelIdeal_ReferenceIdeal_pre_in_range (hKernelIdeal := hKernelIdeal) (hReferenceIdeal := hReferenceIdeal) (hPre_in_range := hPre_in_range)
-- ==== Pre_in_range.lean ====
abbrev S100000 : Shape := ⟨1, ![100000]⟩
abbrev S100000x128x3 : Shape := ⟨3, ![100000, 128, 3]⟩
abbrev S100000x5 : Shape := ⟨2, ![100000, 5]⟩
abbrev S64x3 : Shape := ⟨2, ![64, 3]⟩
abbrev S5 : Shape := ⟨1, ![5]⟩
abbrev S128 : Shape := ⟨1, ![128]⟩
abbrev S_ : Shape := ⟨0, ![]⟩

class Facts : Prop where
  bcast_S_S100000 : S_.BroadcastsInDim S100000 (![] : Fin 0 → Fin S100000.rank)
  reducesTo_S100000_S_d0 : S100000.ReducesTo [0] S_
  h_S_ : 0 < S_.numel

variable [Facts]

def fn {F : FTy → Type} [FloatOps F] (main_arg0 : IVec S100000 32) (main_arg1 : FVec F S100000x128x3 .f32) (main_arg2 : FVec F S100000x5 .f32) (main_arg3 : FVec F S64x3 .f32) (main_arg4 : FVec F S5 .f32) (main_arg5 : FVec F S128 .f32) : IVec S_ 1 :=
  let main_c : IVec S_ 32 := constantI S_ 32 0#32
  let main_v0 : IVec S100000 32 := broadcastInDim S100000 ![] bcast_S_S100000 main_c
  let main_v1 : IVec S100000 1 := cmpi .sge main_arg0 main_v0
  let main_c_0 : IVec S_ 32 := constantI S_ 32 64#32
  let main_v2 : IVec S100000 32 := broadcastInDim S100000 ![] bcast_S_S100000 main_c_0
  let main_v3 : IVec S100000 1 := cmpi .slt main_arg0 main_v2
  let main_v4 : IVec S100000 1 := andi main_v1 main_v3
  let main_c_1 : IVec S_ 1 := constantI S_ 1 1#1
  let main_v5 : IVec S_ 1 := (fun x v => Host.reduce IntOp.andi x v reducesTo_S100000_S_d0 h_S_) main_v4 main_c_1
  main_v5
-- ==== Kernel.lean ====
abbrev S100000 : Shape := ⟨1, ![100000]⟩
abbrev S100000x128x3 : Shape := ⟨3, ![100000, 128, 3]⟩
abbrev S100000x5 : Shape := ⟨2, ![100000, 5]⟩
abbrev S64x3 : Shape := ⟨2, ![64, 3]⟩
abbrev S5 : Shape := ⟨1, ![5]⟩
abbrev S128 : Shape := ⟨1, ![128]⟩
abbrev S3x100000x128 : Shape := ⟨3, ![3, 100000, 128]⟩
abbrev S5x100000 : Shape := ⟨2, ![5, 100000]⟩
abbrev S1x100000 : Shape := ⟨2, ![1, 100000]⟩
abbrev S64x3x1 : Shape := ⟨3, ![64, 3, 1]⟩
abbrev S1x1x128 : Shape := ⟨3, ![1, 1, 128]⟩
abbrev S64x3x128 : Shape := ⟨3, ![64, 3, 128]⟩
abbrev S64x384 : Shape := ⟨2, ![64, 384]⟩
abbrev S_ : Shape := ⟨0, ![]⟩
abbrev S1x128 : Shape := ⟨2, ![1, 128]⟩
abbrev S1 : Shape := ⟨1, ![1]⟩
abbrev S2 : Shape := ⟨1, ![2]⟩
abbrev S1x8960 : Shape := ⟨2, ![1, 8960]⟩
abbrev S5x8960 : Shape := ⟨2, ![5, 8960]⟩
abbrev S3x8960x128 : Shape := ⟨3, ![3, 8960, 128]⟩
abbrev S8960 : Shape := ⟨1, ![8960]⟩
abbrev S1x1 : Shape := ⟨2, ![1, 1]⟩
abbrev S64x8960 : Shape := ⟨2, ![64, 8960]⟩
abbrev S8960x384 : Shape := ⟨2, ![8960, 384]⟩
abbrev S1x8960x128 : Shape := ⟨3, ![1, 8960, 128]⟩
abbrev S8960x128 : Shape := ⟨2, ![8960, 128]⟩

abbrev nBuf : Space → Nat
  | .hbm => 26
  | .vmem => 10
  | .smem => 0
  | _ => 0

abbrev bufTy : (tb : Table) → Fin (tcTables nBuf tb) → BufTy
  | .hbm, ⟨0, _⟩ => ⟨S100000, .i32⟩
  | .hbm, ⟨1, _⟩ => ⟨S100000x128x3, .f32⟩
  | .hbm, ⟨2, _⟩ => ⟨S100000x5, .f32⟩
  | .hbm, ⟨3, _⟩ => ⟨S64x3, .f32⟩
  | .hbm, ⟨4, _⟩ => ⟨S5, .f32⟩
  | .hbm, ⟨5, _⟩ => ⟨S128, .f32⟩
  | .hbm, ⟨6, _⟩ => ⟨S3x100000x128, .f32⟩
  | .hbm, ⟨7, _⟩ => ⟨S5x100000, .f32⟩
  | .hbm, ⟨8, _⟩ => ⟨S1x100000, .i32⟩
  | .hbm, ⟨9, _⟩ => ⟨S64x3x1, .f32⟩
  | .hbm, ⟨10, _⟩ => ⟨S1x1x128, .f32⟩
  | .hbm, ⟨11, _⟩ => ⟨S64x3x128, .f32⟩
  | .hbm, ⟨12, _⟩ => ⟨S64x3x128, .f32⟩
  | .hbm, ⟨13, _⟩ => ⟨S64x3x128, .f32⟩
  | .hbm, ⟨14, _⟩ => ⟨S64x384, .f32⟩
  | .hbm, ⟨15, _⟩ => ⟨S64x384, .bf16⟩
  | .hbm, ⟨16, _⟩ => ⟨S_, .f32⟩
  | .hbm, ⟨17, _⟩ => ⟨S1x128, .f32⟩
  | .hbm, ⟨18, _⟩ => ⟨S_, .i32⟩
  | .hbm, ⟨19, _⟩ => ⟨S1, .i32⟩
  | .hbm, ⟨20, _⟩ => ⟨S_, .i32⟩
  | .hbm, ⟨21, _⟩ => ⟨S1, .i32⟩
  | .hbm, ⟨22, _⟩ => ⟨S2, .i32⟩
  | .hbm, ⟨23, _⟩ => ⟨S1x128, .f32⟩
  | .hbm, ⟨24, _⟩ => ⟨S3x100000x128, .f32⟩
  | .hbm, ⟨25, _⟩ => ⟨S100000x128x3, .f32⟩
  | .local _ .vmem, ⟨0, _⟩ => ⟨S1x8960, .i32⟩
  | .local _ .vmem, ⟨1, _⟩ => ⟨S1x8960, .i32⟩
  | .local _ .vmem, ⟨2, _⟩ => ⟨S5x8960, .f32⟩
  | .local _ .vmem, ⟨3, _⟩ => ⟨S5x8960, .f32⟩
  | .local _ .vmem, ⟨4, _⟩ => ⟨S3x8960x128, .f32⟩
  | .local _ .vmem, ⟨5, _⟩ => ⟨S3x8960x128, .f32⟩
  | .local _ .vmem, ⟨6, _⟩ => ⟨S64x384, .bf16⟩
  | .local _ .vmem, ⟨7, _⟩ => ⟨S1x128, .f32⟩
  | .local _ .vmem, ⟨8, _⟩ => ⟨S3x8960x128, .f32⟩
  | .local _ .vmem, ⟨9, _⟩ => ⟨S3x8960x128, .f32⟩
  | _, _ => ⟨S100000, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_call0_v0 : Ref sig .tc := ⟨.hbm, 6, rfl⟩
abbrev main_call0_v1 : Ref sig .tc := ⟨.hbm, 7, rfl⟩
abbrev main_call0_v2 : Ref sig .tc := ⟨.hbm, 8, rfl⟩
abbrev main_call0_v3 : Ref sig .tc := ⟨.hbm, 9, rfl⟩
abbrev main_call0_v4 : Ref sig .tc := ⟨.hbm, 10, rfl⟩
abbrev main_call0_v5 : Ref sig .tc := ⟨.hbm, 11, rfl⟩
abbrev main_call0_v6 : Ref sig .tc := ⟨.hbm, 12, rfl⟩
abbrev main_call0_v7 : Ref sig .tc := ⟨.hbm, 13, rfl⟩
abbrev main_call0_v8 : Ref sig .tc := ⟨.hbm, 14, rfl⟩
abbrev main_call0_v9 : Ref sig .tc := ⟨.hbm, 15, rfl⟩
abbrev main_call0_cst : Ref sig .tc := ⟨.hbm, 16, rfl⟩
abbrev main_call0_v10 : Ref sig .tc := ⟨.hbm, 17, rfl⟩
abbrev main_call0_c : Ref sig .tc := ⟨.hbm, 18, rfl⟩
abbrev main_call0_v11 : Ref sig .tc := ⟨.hbm, 19, rfl⟩
abbrev main_call0_c_0 : Ref sig .tc := ⟨.hbm, 20, rfl⟩
abbrev main_call0_v12 : Ref sig .tc := ⟨.hbm, 21, rfl⟩
abbrev main_call0_v13 : Ref sig .tc := ⟨.hbm, 22, rfl⟩
abbrev main_call0_v14 : Ref sig .tc := ⟨.hbm, 23, rfl⟩
abbrev main_call0_v15 : Ref sig .tc := ⟨.hbm, 24, rfl⟩
abbrev main_v0 : Ref sig .tc := ⟨.hbm, 25, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨1, ![12], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage0_0 : Fin 2 → Memref sig .tc .vmem S1x8960 .i32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5x8960 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S3x8960x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S64x384 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S3x8960x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== ReferenceIdeal.lean ====
abbrev S100000 : Shape := ⟨1, ![100000]⟩
abbrev S100000x128x3 : Shape := ⟨3, ![100000, 128, 3]⟩
abbrev S100000x5 : Shape := ⟨2, ![100000, 5]⟩
abbrev S64x3 : Shape := ⟨2, ![64, 3]⟩
abbrev S5 : Shape := ⟨1, ![5]⟩
abbrev S128 : Shape := ⟨1, ![128]⟩
abbrev S_ : Shape := ⟨0, ![]⟩
abbrev S100000x1 : Shape := ⟨2, ![100000, 1]⟩
abbrev S1 : Shape := ⟨1, ![1]⟩
abbrev S1x1 : Shape := ⟨2, ![1, 1]⟩
abbrev S100000x3 : Shape := ⟨2, ![100000, 3]⟩
abbrev S100000x1x3 : Shape := ⟨3, ![100000, 1, 3]⟩
abbrev S100000x1x1 : Shape := ⟨3, ![100000, 1, 1]⟩
abbrev S1x128x1 : Shape := ⟨3, ![1, 128, 1]⟩

abbrev nBuf : Space → Nat
  | .hbm => 65
  | .vmem => 0
  | .smem => 0
  | _ => 0

abbrev bufTy : (tb : Table) → Fin (tcTables nBuf tb) → BufTy
  | .hbm, ⟨0, _⟩ => ⟨S100000, .i32⟩
  | .hbm, ⟨1, _⟩ => ⟨S100000x128x3, .f32⟩
  | .hbm, ⟨2, _⟩ => ⟨S100000x5, .f32⟩
  | .hbm, ⟨3, _⟩ => ⟨S64x3, .f32⟩
  | .hbm, ⟨4, _⟩ => ⟨S5, .f32⟩
  | .hbm, ⟨5, _⟩ => ⟨S128, .f32⟩
  | .hbm, ⟨6, _⟩ => ⟨S100000x5, .i32⟩
  | .hbm, ⟨7, _⟩ => ⟨S_, .f32⟩
  | .hbm, ⟨8, _⟩ => ⟨S_, .i32⟩
  | .hbm, ⟨9, _⟩ => ⟨S100000, .f32⟩
  | .hbm, ⟨10, _⟩ => ⟨S100000, .i32⟩
  | .hbm, ⟨11, _⟩ => ⟨S_, .i32⟩
  | .hbm, ⟨12, _⟩ => ⟨S100000, .i32⟩
  | .hbm, ⟨13, _⟩ => ⟨S100000, .i1⟩
  | .hbm, ⟨14, _⟩ => ⟨S_, .i32⟩
  | .hbm, ⟨15, _⟩ => ⟨S100000, .i32⟩
  | .hbm, ⟨16, _⟩ => ⟨S100000, .i32⟩
  | .hbm, ⟨17, _⟩ => ⟨S100000, .i32⟩
  | .hbm, ⟨18, _⟩ => ⟨S100000x1, .i32⟩
  | .hbm, ⟨19, _⟩ => ⟨S1, .i32⟩
  | .hbm, ⟨20, _⟩ => ⟨S_, .i32⟩
  | .hbm, ⟨21, _⟩ => ⟨S100000x1, .i32⟩
  | .hbm, ⟨22, _⟩ => ⟨S100000x1, .i1⟩
  | .hbm, ⟨23, _⟩ => ⟨S1x1, .i32⟩
  | .hbm, ⟨24, _⟩ => ⟨S100000x1, .i32⟩
  | .hbm, ⟨25, _⟩ => ⟨S100000x1, .i1⟩
  | .hbm, ⟨26, _⟩ => ⟨S100000x1, .i1⟩
  | .hbm, ⟨27, _⟩ => ⟨S_, .i1⟩
  | .hbm, ⟨28, _⟩ => ⟨S100000, .i1⟩
  | .hbm, ⟨29, _⟩ => ⟨S100000x3, .f32⟩
  | .hbm, ⟨30, _⟩ => ⟨S100000x3, .i1⟩
  | .hbm, ⟨31, _⟩ => ⟨S_, .f32⟩
  | .hbm, ⟨32, _⟩ => ⟨S100000x3, .f32⟩
  | .hbm, ⟨33, _⟩ => ⟨S100000x3, .f32⟩
  | .hbm, ⟨34, _⟩ => ⟨S100000x1x3, .f32⟩
  | .hbm, ⟨35, _⟩ => ⟨S_, .i32⟩
  | .hbm, ⟨36, _⟩ => ⟨S100000, .i32⟩
  | .hbm, ⟨37, _⟩ => ⟨S100000, .i1⟩
  | .hbm, ⟨38, _⟩ => ⟨S_, .i32⟩
  | .hbm, ⟨39, _⟩ => ⟨S100000, .i32⟩
  | .hbm, ⟨40, _⟩ => ⟨S100000, .i32⟩
  | .hbm, ⟨41, _⟩ => ⟨S100000, .i32⟩
  | .hbm, ⟨42, _⟩ => ⟨S100000x1, .i32⟩
  | .hbm, ⟨43, _⟩ => ⟨S1, .i32⟩
  | .hbm, ⟨44, _⟩ => ⟨S_, .i32⟩
  | .hbm, ⟨45, _⟩ => ⟨S100000x1, .i32⟩
  | .hbm, ⟨46, _⟩ => ⟨S100000x1, .i1⟩
  | .hbm, ⟨47, _⟩ => ⟨S1x1, .i32⟩
  | .hbm, ⟨48, _⟩ => ⟨S100000x1, .i32⟩
  | .hbm, ⟨49, _⟩ => ⟨S100000x1, .i1⟩
  | .hbm, ⟨50, _⟩ => ⟨S100000x1, .i1⟩
  | .hbm, ⟨51, _⟩ => ⟨S_, .i1⟩
  | .hbm, ⟨52, _⟩ => ⟨S100000, .i1⟩
  | .hbm, ⟨53, _⟩ => ⟨S100000, .f32⟩
  | .hbm, ⟨54, _⟩ => ⟨S_, .f32⟩
  | .hbm, ⟨55, _⟩ => ⟨S100000, .f32⟩
  | .hbm, ⟨56, _⟩ => ⟨S100000, .f32⟩
  | .hbm, ⟨57, _⟩ => ⟨S100000x1x1, .f32⟩
  | .hbm, ⟨58, _⟩ => ⟨S1x128x1, .f32⟩
  | .hbm, ⟨59, _⟩ => ⟨S100000x1x3, .f32⟩
  | .hbm, ⟨60, _⟩ => ⟨S100000x1x3, .f32⟩
  | .hbm, ⟨61, _⟩ => ⟨S100000x128x3, .f32⟩
  | .hbm, ⟨62, _⟩ => ⟨S100000x128x3, .f32⟩
  | .hbm, ⟨63, _⟩ => ⟨S100000x128x3, .f32⟩
  | .hbm, ⟨64, _⟩ => ⟨S100000x128x3, .f32⟩
  | _, _ => ⟨S100000, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_call0_v0 : Ref sig .tc := ⟨.hbm, 6, rfl⟩
abbrev main_call0_cst : Ref sig .tc := ⟨.hbm, 7, rfl⟩
abbrev main_call0_c : Ref sig .tc := ⟨.hbm, 8, rfl⟩
abbrev main_call0_v1_0 : Ref sig .tc := ⟨.hbm, 9, rfl⟩
abbrev main_v0 : Ref sig .tc := ⟨.hbm, 10, rfl⟩
abbrev main_call1_c : Ref sig .tc := ⟨.hbm, 11, rfl⟩
abbrev main_call1_v0 : Ref sig .tc := ⟨.hbm, 12, rfl⟩
abbrev main_call1_v1 : Ref sig .tc := ⟨.hbm, 13, rfl⟩
abbrev main_call1_c_0 : Ref sig .tc := ⟨.hbm, 14, rfl⟩
abbrev main_call1_v2 : Ref sig .tc := ⟨.hbm, 15, rfl⟩
abbrev main_call1_v3 : Ref sig .tc := ⟨.hbm, 16, rfl⟩
abbrev main_call1_v4 : Ref sig .tc := ⟨.hbm, 17, rfl⟩
abbrev main_call1_v5 : Ref sig .tc := ⟨.hbm, 18, rfl⟩
abbrev main_call1_c_1 : Ref sig .tc := ⟨.hbm, 19, rfl⟩
abbrev main_call1_c_2 : Ref sig .tc := ⟨.hbm, 20, rfl⟩
abbrev main_call1_v6 : Ref sig .tc := ⟨.hbm, 21, rfl⟩
abbrev main_call1_v7 : Ref sig .tc := ⟨.hbm, 22, rfl⟩
abbrev main_call1_v8 : Ref sig .tc := ⟨.hbm, 23, rfl⟩
abbrev main_call1_v9 : Ref sig .tc := ⟨.hbm, 24, rfl⟩
abbrev main_call1_v10 : Ref sig .tc := ⟨.hbm, 25, rfl⟩
abbrev main_call1_v11 : Ref sig .tc := ⟨.hbm, 26, rfl⟩
abbrev main_call1_c_3 : Ref sig .tc := ⟨.hbm, 27, rfl⟩
abbrev main_call1_v12 : Ref sig .tc := ⟨.hbm, 28, rfl⟩
abbrev main_call1_v13 : Ref sig .tc := ⟨.hbm, 29, rfl⟩
abbrev main_call1_v14 : Ref sig .tc := ⟨.hbm, 30, rfl⟩
abbrev main_call1_cst : Ref sig .tc := ⟨.hbm, 31, rfl⟩
abbrev main_call1_v15 : Ref sig .tc := ⟨.hbm, 32, rfl⟩
abbrev main_v1 : Ref sig .tc := ⟨.hbm, 33, rfl⟩
abbrev main_v2 : Ref sig .tc := ⟨.hbm, 34, rfl⟩
abbrev main_call2_c : Ref sig .tc := ⟨.hbm, 35, rfl⟩
abbrev main_call2_v0 : Ref sig .tc := ⟨.hbm, 36, rfl⟩
abbrev main_call2_v1 : Ref sig .tc := ⟨.hbm, 37, rfl⟩
abbrev main_call2_c_0 : Ref sig .tc := ⟨.hbm, 38, rfl⟩
abbrev main_call2_v2 : Ref sig .tc := ⟨.hbm, 39, rfl⟩
abbrev main_call2_v3 : Ref sig .tc := ⟨.hbm, 40, rfl⟩
abbrev main_call2_v4 : Ref sig .tc := ⟨.hbm, 41, rfl⟩
abbrev main_call2_v5 : Ref sig .tc := ⟨.hbm, 42, rfl⟩
abbrev main_call2_c_1 : Ref sig .tc := ⟨.hbm, 43, rfl⟩
abbrev main_call2_c_2 : Ref sig .tc := ⟨.hbm, 44, rfl⟩
abbrev main_call2_v6 : Ref sig .tc := ⟨.hbm, 45, rfl⟩
abbrev main_call2_v7 : Ref sig .tc := ⟨.hbm, 46, rfl⟩
abbrev main_call2_v8 : Ref sig .tc := ⟨.hbm, 47, rfl⟩
abbrev main_call2_v9 : Ref sig .tc := ⟨.hbm, 48, rfl⟩
abbrev main_call2_v10 : Ref sig .tc := ⟨.hbm, 49, rfl⟩
abbrev main_call2_v11 : Ref sig .tc := ⟨.hbm, 50, rfl⟩
abbrev main_call2_c_3 : Ref sig .tc := ⟨.hbm, 51, rfl⟩
abbrev main_call2_v12 : Ref sig .tc := ⟨.hbm, 52, rfl⟩
abbrev main_call2_v13 : Ref sig .tc := ⟨.hbm, 53, rfl⟩
abbrev main_call2_cst : Ref sig .tc := ⟨.hbm, 54, rfl⟩
abbrev main_call2_v14 : Ref sig .tc := ⟨.hbm, 55, rfl⟩
abbrev main_v3 : Ref sig .tc := ⟨.hbm, 56, rfl⟩
abbrev main_v4 : Ref sig .tc := ⟨.hbm, 57, rfl⟩
abbrev main_v5 : Ref sig .tc := ⟨.hbm, 58, rfl⟩
abbrev main_v6 : Ref sig .tc := ⟨.hbm, 59, rfl⟩
abbrev main_v7 : Ref sig .tc := ⟨.hbm, 60, rfl⟩
abbrev main_v8 : Ref sig .tc := ⟨.hbm, 61, rfl⟩
abbrev main_v9 : Ref sig .tc := ⟨.hbm, 62, rfl⟩
abbrev main_v10 : Ref sig .tc := ⟨.hbm, 63, rfl⟩
abbrev main_v11 : Ref sig .tc := ⟨.hbm, 64, rfl⟩

abbrev nD : Nat := 1
abbrev τ : Topo := Topo.v7x

variable {F : FTy → Type} [FloatOps F]
-- ==== Proof.FrameKernel.lean ====
/- The kernel's frame at any float values. What the result's buffer holds past the array's end depends on rows that are
   not the array's, so the result is left unnamed here: the run ends, the arguments are unchanged, the counters at zero. -/
module

public import proofs.«01_k».proof.Proof.DataKernel
public import Idealize.ShloMosaic.Lib.Pipeline.FrameSuffix

@[expose] public section

set_option maxRecDepth 16384

noncomputable section

namespace Cert.Kernel.Body

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligation BodyObligationLoose cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The result's window is the one whose contents are left unnamed. -/
def unnamed : Fin cfg0.W → Bool
  | ⟨5, _⟩ => true
  | _ => false

/-- The body at any point: the inputs' buffers come back at their blocks, the result's at something. -/
theorem obligation (c : Dev nD) :
    BodyObligationLoose (dats (F := F) m 0 c) (defs₀ (F := F)) Variants.none () Set.univ unnamed := fun t => by
  rw [bigSep_W0, bigSep_W0]
  simp only [show unnamed (0 : Fin 6) = false from rfl, show unnamed (1 : Fin 6) = false from rfl, show unnamed (2 : Fin 6) = false from rfl,
    show unnamed (3 : Fin 6) = false from rfl, show unnamed (4 : Fin 6) = false from rfl, show unnamed (5 : Fin 6) = true from rfl]
  rw [show (dats m 0 c).Φ t.succ = (dats m 0 c).Φ t.castSucc from rfl,
    show (dats m 0 c).owesAt () t.succ = (dats m 0 c).owesAt () t.castSucc from rfl]
  iintro ⟨HΦ, Ho, ⟨%d0, H0⟩, ⟨%d1, H1⟩, ⟨%d2, H2⟩, ⟨%d3, H3⟩, ⟨%d4, H4⟩, H5⟩
  rw [before_0 m c t d0, before_1 m c t d1, before_2 m c t d2, before_3 m c t d3, before_4 m c t d4]
  iapply (run_body (F := F) c Set.univ (grid0.coords t) _ _ _ _ _ _ _ _ _ _ _ _ (batchAt m c t d0) (attrsAt m c t d1)
    (featsAt m c t d2) (iblk m c 3 t) (iblk m c 4 t) _)
  isplitl [H0]; · iexact H0
  isplitl [H1]; · iexact H1
  isplitl [H2]; · iexact H2
  isplitl [H3]; · iexact H3
  isplitl [H4]; · iexact H4
  isplitl [H5]; · iexact H5
  iintro ⟨H0, H1, H2, H3, H4, H5⟩
  isplitl [HΦ]; · iexact HΦ
  isplitl [Ho]; · iexact Ho
  isplitl [H0]
  · iexists d0
    iapply (owns_congr c (win0_0.stage (cfg0.slots t 0)) (refill_0 m c t d0))
    iexact H0
  isplitl [H1]
  · iexists d1
    iapply (owns_congr c (win0_1.stage (cfg0.slots t 1)) (refill_1 m c t d1))
    iexact H1
  isplitl [H2]
  · iexists d2
    iapply (owns_congr c (win0_2.stage (cfg0.slots t 2)) (refill_2 m c t d2))
    iexact H2
  isplitl [H3]; · iexact H3
  isplitl [H4]; · iexact H4
  iexists _; iexact H5

-- the library theorem's implicit arguments are found by unifying its conclusion with this one, which takes unfolding plain
-- definitions in a metavariable's type
set_option backward.isDefEq.respectTransparency.types false in
/-- At the compiled mesh, from any memory with zero counters, every run of @main ends, with every buffer that is no array
    of the pipeline, save the result, as the region found it, and the counters at zero. -/
theorem run_main : θ_run defs (onTc (τ := τ) (main (F := F))) (s₀ m ρ)
    (fun r => RDat.FramePostR cfg0 (fun c => (dats m 0 c).toRForget unnamed) {main_v0} (fun c b => V m c b) r
      ∧ r.2.sem = fun _ => 0) :=
  Pipeline.θ_run_frame_around_T_forget cfgs (dats m) (0 : Fin 1) launch0 defs₀ Variants.none unnamed {main_v0} m ρ main
    (hbody := obligation m) (hshare := fun c => (dats m 0 c).share_full fun _ => rfl)
    (howed := fun _ _ => rfl) (V₀ := V0 m) (opss := [hostOps1]) (hsub := sfx_sub) (hfresh := sfx_fresh) (hkeep := sfx_keeps)
    (hT := by
      intro ops hops op hop b hb
      simp only [List.mem_cons, List.mem_nil_iff, or_false] at hops
      rcases hops with rfl
      simp only [hostOps1, List.mem_cons, List.mem_nil_iff, or_false] at hop
      rcases hop with rfl
      simp only [StableHlo.unary_writes, Finset.mem_singleton] at hb
      rw [Finset.mem_singleton]
      by_contra hne
      exact StableHlo.devRef_ne_of_ne hne hb)
    (hmain := hmain m Variants.none) (hA := A_eq m) (hΦ := fun _ _ => rfl) (Q' := _) (hQ' := fun _ h => h)

/-- The kernel runs and leaves its argument arrays unchanged, every semaphore counter at zero. -/
theorem unchanged : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) :=
  (θ_run defs _ _).mono (fun _ h => ⟨fun c =>
    ⟨((h.1 c).2 main_arg0 (by decide)).trans (V_main_arg0 m c), ((h.1 c).2 main_arg1 (by decide)).trans (V_main_arg1 m c),
      ((h.1 c).2 main_arg2 (by decide)).trans (V_main_arg2 m c), ((h.1 c).2 main_arg3 (by decide)).trans (V_main_arg3 m c),
      ((h.1 c).2 main_arg4 (by decide)).trans (V_main_arg4 m c), ((h.1 c).2 main_arg5 (by decide)).trans (V_main_arg5 m c)⟩,
    h.2⟩) (run_main m ρ)

end Cert.Kernel.Body

end
-- ==== Proof.BodyIdeal.lean ====
/- The body of the idealized kernel as one triple: run on whole staging buffers, it leaves the five input buffers as
   they were and the result's buffer holding the three slabs it stores (`slabs`). -/
module

public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import Idealize.ShloMosaic.Lib.Tactic

@[expose] public section

set_option maxRecDepth 16384

noncomputable section

namespace Cert.KernelIdeal.Body

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

/-- One scalar of the padded weight row, at lane `0`, `1`, `2`, `3` or `4`. -/
abbrev lane0 : Rect S1x128 := Rect.unit (s := S1x128) ![0, 0] S1x1.size inb_S1x128_S1x1_0_0
abbrev lane1 : Rect S1x128 := Rect.unit (s := S1x128) ![0, 1] S1x1.size inb_S1x128_S1x1_0_1
abbrev lane2 : Rect S1x128 := Rect.unit (s := S1x128) ![0, 2] S1x1.size inb_S1x128_S1x1_0_2
abbrev lane3 : Rect S1x128 := Rect.unit (s := S1x128) ![0, 3] S1x1.size inb_S1x128_S1x1_0_3
abbrev lane4 : Rect S1x128 := Rect.unit (s := S1x128) ![0, 4] S1x1.size inb_S1x128_S1x1_0_4
/-- The whole of the batch row, of the attribute rows and of the field table. -/
abbrev allB : Rect S1x8960 := Rect.unit (s := S1x8960) ![0, 0] S1x8960.size inb_S1x8960_S1x8960_0_0
abbrev allA : Rect S5x8960 := Rect.unit (s := S5x8960) ![0, 0] S5x8960.size inb_S5x8960_S5x8960_0_0
abbrev allT : Rect S64x384 := Rect.unit (s := S64x384) ![0, 0] S64x384.size inb_S64x384_S64x384_0_0
/-- The three slabs of the feature buffer and of the result's. -/
abbrev slab0 : Rect S3x8960x128 := Rect.unit (s := S3x8960x128) ![0, 0, 0] S1x8960x128.size inb_S3x8960x128_S1x8960x128_0_0_0
abbrev slab1 : Rect S3x8960x128 := Rect.unit (s := S3x8960x128) ![1, 0, 0] S1x8960x128.size inb_S3x8960x128_S1x8960x128_1_0_0
abbrev slab2 : Rect S3x8960x128 := Rect.unit (s := S3x8960x128) ![2, 0, 0] S1x8960x128.size inb_S3x8960x128_S1x8960x128_2_0_0

/-- The product of the scaled selection matrix with the field table, from the four buffers it reads. -/
def product (x0 : Vec F S1x8960 .i32) (x1 : Vec F S5x8960 .f32) (x3 : Vec F S64x384 .bf16) (x4 : Vec F S1x128 .f32) :
    FVec F S8960x384 .f32 :=
  k0_pay14 (k0_pay11 (View.ld x1 allA) (View.ld x4 lane0) (View.ld x4 lane1) (View.ld x4 lane2) (View.ld x4 lane3))
    (k0_pay12 (View.ld x1 allA)) (k0_pay13 (View.ld x1 allA)) (constantI S1x8960 1 1#1) (View.ld x4 lane4)
    (View.ld x0 allB) (View.ld x3 allT)

/-- The two first stored slabs' values, each a feature slab plus a third of the product. -/
def first (x0 : Vec F S1x8960 .i32) (x1 : Vec F S5x8960 .f32) (x2 : Vec F S3x8960x128 .f32) (x3 : Vec F S64x384 .bf16)
    (x4 : Vec F S1x128 .f32) : FVec F S1x8960x128 .f32 :=
  k0_pay15 (k0_pay11 (View.ld x1 allA) (View.ld x4 lane0) (View.ld x4 lane1) (View.ld x4 lane2) (View.ld x4 lane3))
    (k0_pay12 (View.ld x1 allA)) (k0_pay13 (View.ld x1 allA)) (constantI S1x8960 1 1#1) (View.ld x4 lane4)
    (View.ld x0 allB) (View.ld x3 allT) (View.ld x2 slab0)
def second (x0 : Vec F S1x8960 .i32) (x1 : Vec F S5x8960 .f32) (x2 : Vec F S3x8960x128 .f32) (x3 : Vec F S64x384 .bf16)
    (x4 : Vec F S1x128 .f32) : FVec F S1x8960x128 .f32 :=
  k0_pay16 (k0_pay11 (View.ld x1 allA) (View.ld x4 lane0) (View.ld x4 lane1) (View.ld x4 lane2) (View.ld x4 lane3))
    (k0_pay12 (View.ld x1 allA)) (k0_pay13 (View.ld x1 allA)) (constantI S1x8960 1 1#1) (View.ld x4 lane4)
    (View.ld x0 allB) (View.ld x3 allT) (View.ld x2 slab1)

/-- What the body leaves in the result's buffer: the three stored slabs, the last store first. -/
def slabs (x0 : Vec F S1x8960 .i32) (x1 : Vec F S5x8960 .f32) (x2 : Vec F S3x8960x128 .f32) (x3 : Vec F S64x384 .bf16)
    (x4 : Vec F S1x128 .f32) : Vec F S3x8960x128 .f32 :=
  View.canon [⟨slab2, k0_pay1 (product x0 x1 x3 x4) (k0_pay17 (View.ld x2 slab2))⟩, ⟨slab1, second x0 x1 x2 x3 x4⟩,
    ⟨slab0, first x0 x1 x2 x3 x4⟩]

/-- The three slabs cover the result's buffer. -/
theorem slabs_cover (p0 p1 p2 : Vec F S1x8960x128 .f32) (y : S3x8960x128.Idx) :
    ∃ pc ∈ ([⟨slab2, p0⟩, ⟨slab1, p1⟩, ⟨slab0, p2⟩] : List (View.Piece (Elt F) S3x8960x128 .f32)), y ∈ pc.1.set :=
  View.cover_of_tiled [⟨slab2, p0⟩, ⟨slab1, p1⟩, ⟨slab0, p2⟩] S1x8960x128.size (by rfl) y

set_option maxHeartbeats 2000000 in
/-- The body on whole buffers `arg1` … `arg6`: from the inputs' contents `x0` … `x4` and anything in the result's, it
    runs to its end with the inputs as they were and the result's buffer at `slabs`. -/
theorem run_body (c : Dev nD) (E : Set ℕ) (i : grid0.Coords)
    (arg1 : Memref sig .tc .vmem S1x8960 .i32) (harg1 : arg1.IsWhole) (arg2 : Memref sig .tc .vmem S5x8960 .f32) (harg2 : arg2.IsWhole)
    (arg3 : Memref sig .tc .vmem S3x8960x128 .f32) (harg3 : arg3.IsWhole) (arg4 : Memref sig .tc .vmem S64x384 .bf16) (harg4 : arg4.IsWhole)
    (arg5 : Memref sig .tc .vmem S1x128 .f32) (harg5 : arg5.IsWhole) (arg6 : Memref sig .tc .vmem S3x8960x128 .f32) (harg6 : arg6.IsWhole)
    (x0 : Vec F S1x8960 .i32) (x1 : Vec F S5x8960 .f32) (x2 : Vec F S3x8960x128 .f32) (x3 : Vec F S64x384 .bf16)
    (x4 : Vec F S1x128 .f32) (K : PUnit → sProp 𝕄) :
    iprop(owns (c : Thread nD τ) arg1 fullShare x0 ∗ owns (c : Thread nD τ) arg2 fullShare x1
        ∗ owns (c : Thread nD τ) arg3 fullShare x2 ∗ owns (c : Thread nD τ) arg4 fullShare x3
        ∗ owns (c : Thread nD τ) arg5 fullShare x4 ∗ (∃ d, owns (c : Thread nD τ) arg6 fullShare d)
        ∗ (iprop(owns (c : Thread nD τ) arg1 fullShare x0 ∗ owns (c : Thread nD τ) arg2 fullShare x1
            ∗ owns (c : Thread nD τ) arg3 fullShare x2 ∗ owns (c : Thread nD τ) arg4 fullShare x3
            ∗ owns (c : Thread nD τ) arg5 fullShare x4 ∗ owns (c : Thread nD τ) arg6 fullShare (slabs x0 x1 x2 x3 x4)) -∗ K ⟨⟩))
      ⊢ wp frame (wpE (defs₀ (F := F)) Variants.none c none) E
          (cc0__embed_kernel i arg1 harg1 arg2 harg2 arg3 harg3 arg4 harg4 arg5 harg5 arg6 harg6) K := by
  simp only [cc0__embed_kernel_eq_skeleton]; unfold cc0__embed_kernel_skel
  simp only [k0_part1_eq_skeleton, k0_part2_eq_skeleton]
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0 hf1 hf2 hf3 hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  refine (View.read_writes_eq_canon _ _ _ (slabs_cover _ _ _)).trans ?_
  rfl

end Cert.KernelIdeal.Body

end
-- ==== Proof.DataIdeal.lean ====
/- The proof data of the idealized kernel's one pipeline, and what each input's staging buffer holds when the body runs
   at a grid point: the part of the array's block inside the array, and anything past the array's end. -/
module

public import proofs.«01_k».proof.Proof.BodyIdeal

@[expose] public section

set_option maxRecDepth 16384

noncomputable section

namespace Cert.KernelIdeal.Body

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The batch row's, the attribute rows' and the feature slabs' blocks at point `t`, over `d` past the array's end. -/
def batchAt (c : Dev nD) (t : Fin cfg0.N) (d : Vec F S1x8960 .i32) : Vec F S1x8960 .i32 :=
  win0_0.fill (grid0.coords t) d (iblk m c 0 t)
def attrsAt (c : Dev nD) (t : Fin cfg0.N) (d : Vec F S5x8960 .f32) : Vec F S5x8960 .f32 :=
  win0_1.fill (grid0.coords t) d (iblk m c 1 t)
def featsAt (c : Dev nD) (t : Fin cfg0.N) (d : Vec F S3x8960x128 .f32) : Vec F S3x8960x128 .f32 :=
  win0_2.fill (grid0.coords t) d (iblk m c 2 t)

/-- Zeros to put past the array's end. -/
def noBatch : Vec F S1x8960 .i32 := fun _ => 0#32
def noAttrs : Vec F S5x8960 .f32 := fun _ => Scalar.ofBits .f32 0#32
def noFeats : Vec F S3x8960x128 .f32 := fun _ => Scalar.ofBits .f32 0#32

/-- The result's buffer after the body at point `t`, zeros past the arrays' ends. -/
def resultAt (c : Dev nD) (t : Fin cfg0.N) : Vec F S3x8960x128 .f32 :=
  slabs (batchAt m c t noBatch) (attrsAt m c t noAttrs) (featsAt m c t noFeats) (iblk m c 3 t) (iblk m c 4 t)

/-- The proof data on core `c`: the arrays as the region finds them; after the body at point `t` each input's buffer
    at its block and the result's at `resultAt`; the scoped rest untouched; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => batchAt m c t noBatch
    | ⟨1, _⟩ => attrsAt m c t noAttrs
    | ⟨2, _⟩ => featsAt m c t noFeats
    | ⟨3, _⟩ => iblk m c 3 t
    | ⟨4, _⟩ => iblk m c 4 t
    | ⟨5, _⟩ => resultAt m c t
  Φ _ := Pipeline.ΦA spec0 c
  q _ := fullShare
  owed _ := 0

/-- The proof data's arrays are the region-entry contents. -/
theorem A_eq (c : Dev nD) (w : Fin cfg0.W) : (dats m 0 c).A w = V m c (Pipeline.arrRef spec0 w) := by
  dsimp only [dats]

/-- What the body leaves, window by window. -/
theorem after_0 (c : Dev nD) (t : Fin cfg0.N) : (dats m 0 c).after 0 t = batchAt m c t noBatch := by dsimp only [dats]
theorem after_1 (c : Dev nD) (t : Fin cfg0.N) : (dats m 0 c).after 1 t = attrsAt m c t noAttrs := by dsimp only [dats]
theorem after_2 (c : Dev nD) (t : Fin cfg0.N) : (dats m 0 c).after 2 t = featsAt m c t noFeats := by dsimp only [dats]
theorem after_3 (c : Dev nD) (t : Fin cfg0.N) : (dats m 0 c).after 3 t = iblk m c 3 t := by dsimp only [dats]
theorem after_4 (c : Dev nD) (t : Fin cfg0.N) : (dats m 0 c).after 4 t = iblk m c 4 t := by dsimp only [dats]
theorem after_5 (c : Dev nD) (t : Fin cfg0.N) : (dats m 0 c).after 5 t = resultAt m c t := by dsimp only [dats]

/-- What the body finds in the three clipped inputs' buffers: just fetched, the block over whatever was there; -/
theorem before_0 (c : Dev nD) (t : Fin cfg0.N) (d) : (dats m 0 c).before 0 t d = batchAt m c t d := by
  unfold Dat.before; rw [if_pos (fetch0_0 t)]; rfl
theorem before_1 (c : Dev nD) (t : Fin cfg0.N) (d) : (dats m 0 c).before 1 t d = attrsAt m c t d := by
  unfold Dat.before; rw [if_pos (fetch0_1 t)]; rfl
theorem before_2 (c : Dev nD) (t : Fin cfg0.N) (d) : (dats m 0 c).before 2 t d = featsAt m c t d := by
  unfold Dat.before; rw [if_pos (fetch0_2 t)]; rfl
/-- and in the two whole ones', the whole array. -/
theorem before_3 (c : Dev nD) (t : Fin cfg0.N) (d) : (dats m 0 c).before 3 t d = iblk m c 3 t :=
  before0_3_of m (dats m 0 c) (A_eq m c 3) (after_3 m c) t d
theorem before_4 (c : Dev nD) (t : Fin cfg0.N) (d) : (dats m 0 c).before 4 t d = iblk m c 4 t :=
  before0_4_of m (dats m 0 c) (A_eq m c 4) (after_4 m c) t d

/-- On the part inside the array, the blocks do not depend on what lies past its end. -/
theorem cut_batchAt (c : Dev nD) (t : Fin cfg0.N) (d) : win0_0.cut (grid0.coords t) (batchAt m c t d) = iblk m c 0 t :=
  win0_0.cut_fill _ _ _
theorem cut_attrsAt (c : Dev nD) (t : Fin cfg0.N) (d) : win0_1.cut (grid0.coords t) (attrsAt m c t d) = iblk m c 1 t :=
  win0_1.cut_fill _ _ _
theorem cut_featsAt (c : Dev nD) (t : Fin cfg0.N) (d) : win0_2.cut (grid0.coords t) (featsAt m c t d) = iblk m c 2 t :=
  win0_2.cut_fill _ _ _

/-- A buffer handed back at its block's part inside the array over `d` past its end is the buffer the body found. -/
theorem refill_0 (c : Dev nD) (t : Fin cfg0.N) (d) :
    batchAt m c t d = win0_0.fill (grid0.coords t) d (win0_0.cut (grid0.coords t) ((dats m 0 c).after 0 t)) := by
  rw [after_0, cut_batchAt]; rfl
theorem refill_1 (c : Dev nD) (t : Fin cfg0.N) (d) :
    attrsAt m c t d = win0_1.fill (grid0.coords t) d (win0_1.cut (grid0.coords t) ((dats m 0 c).after 1 t)) := by
  rw [after_1, cut_attrsAt]; rfl
theorem refill_2 (c : Dev nD) (t : Fin cfg0.N) (d) :
    featsAt m c t d = win0_2.fill (grid0.coords t) d (win0_2.cut (grid0.coords t) ((dats m 0 c).after 2 t)) := by
  rw [after_2, cut_featsAt]; rfl

/-- A buffer owned at some contents is owned at equal contents. -/
theorem owns_congr (c : Dev nD) {sp : Space} {s : Shape} {e : EltTy} (M : Memref sig .tc sp s e) {X Y : s.Idx → Elt F e}
    (h : X = Y) : (owns (c : Thread nD τ) M fullShare X : sProp 𝕄) ⊢ owns (c : Thread nD τ) M fullShare Y := by
  rw [h]

end Cert.KernelIdeal.Body

end
-- ==== Proof.Weight.lean ====
/- The weight of a node's element: of five attributes the first largest picks one of five weights. Two ways of writing it
   are compared with it: a chain of selections guarded by "no earlier one matched", and a fold that keeps the better of
   two (attribute, position) pairs. -/
module

public import Idealize.ShloMosaic.PureOps
public import Idealize.ShloMosaic.Lib.Pointwise

@[expose] public section

noncomputable section

namespace Cert.Weight

open Idealize.ShloMosaic

/-- The largest of five attributes, taken from minus infinity up. -/
def top (a : Fin 5 → EReal) : EReal := Finset.fold max (Ideal.ofBits FTy.f32 4286578688#32) (fun e => a e) Finset.univ

/-- The weight at the first largest attribute. -/
def chosen (a w : Fin 5 → EReal) : EReal :=
  if a 0 = top a then w 0 else if a 1 = top a then w 1 else if a 2 = top a then w 2 else if a 3 = top a then w 3
  else if a 4 = top a then w 4 else 0

theorem floor_eq : Ideal.ofBits FTy.f32 4286578688#32 = ⊥ := by simp [Ideal.ofBits, Ideal.ieee]

/-- Every attribute is at most the largest. -/
theorem le_top (a : Fin 5 → EReal) (e : Fin 5) : a e ≤ top a := by
  unfold top; rw [Finset.le_fold_max]; exact .inr ⟨e, Finset.mem_univ e, le_rfl⟩

/-- The largest is at most any bound of the attributes. -/
theorem top_le (a : Fin 5 → EReal) (b : EReal) (h : ∀ e, a e ≤ b) : top a ≤ b := by
  unfold top; rw [Finset.fold_max_le, floor_eq]; exact ⟨bot_le, fun e _ => h e⟩

/-- A position whose attribute is above every earlier one and at least every one picks the weight. -/
theorem chosen_of_first (a w : Fin 5 → EReal) (i : Fin 5) (hlt : ∀ e < i, a e < a i) (hle : ∀ e, a e ≤ a i) :
    w i = chosen a w := by
  have ht : top a = a i := le_antisymm (top_le a _ hle) (le_top a i)
  have hne : ∀ e < i, ¬ a e = top a := fun e he => by rw [ht]; exact (hlt e he).ne
  unfold chosen
  match i, ht, hne with
  | 0, ht, hne => rw [if_pos ht.symm]
  | 1, ht, hne => rw [if_neg (hne 0 (by decide)), if_pos ht.symm]
  | 2, ht, hne => rw [if_neg (hne 0 (by decide)), if_neg (hne 1 (by decide)), if_pos ht.symm]
  | 3, ht, hne => rw [if_neg (hne 0 (by decide)), if_neg (hne 1 (by decide)), if_neg (hne 2 (by decide)), if_pos ht.symm]
  | 4, ht, hne =>
    rw [if_neg (hne 0 (by decide)), if_neg (hne 1 (by decide)), if_neg (hne 2 (by decide)), if_neg (hne 3 (by decide)),
      if_pos ht.symm]

/-- The better of two (attribute, position) pairs: the larger attribute; of equal ones, the smaller position. -/
def better (p q : EReal × BitVec 32) : EReal × BitVec 32 :=
  (if q.1 < p.1 then p.1 else q.1, if q.1 < p.1 ∨ (p.1 = q.1 ∧ p.2.slt q.2 = true) then p.2 else q.2)

/-- `s` is the first largest of the attributes before position `k`. -/
def Leads (a : Fin 5 → EReal) (k : ℕ) (s : EReal × BitVec 32) : Prop :=
  ∃ i : Fin 5, (i : ℕ) < k ∧ s = (a i, BitVec.ofNat 32 i) ∧ (∀ e < i, a e < a i) ∧ ∀ e : Fin 5, (e : ℕ) < k → a e ≤ a i

theorem leads_one (a : Fin 5 → EReal) : Leads a 1 (better (⊥, 0#32) (a 0, 0#32)) := by
  refine ⟨0, by decide, ?_, fun e he => absurd he (by simp), fun e he => ?_⟩
  · simp [better]
  · have : e = 0 := Fin.ext (by simpa using he)
    rw [this]

theorem leads_step (a : Fin 5 → EReal) (k : Fin 5) (s : EReal × BitVec 32) (h : Leads a k s) :
    Leads a (k + 1) (better s (a k, BitVec.ofNat 32 k)) := by
  obtain ⟨i, hik, rfl, hlt, hle⟩ := h
  have hslt : ((BitVec.ofNat 32 i).slt (BitVec.ofNat 32 k)) = true := by
    revert hik; fin_cases i <;> fin_cases k <;> simp <;> decide
  rcases lt_or_ge (a i) (a k) with hc | hc
  · refine ⟨k, by omega, ?_, fun e he => (hle e he).trans_lt hc, fun e he => ?_⟩
    · simp [better, not_lt.mpr hc.le, hc.ne]
    · rcases Nat.lt_succ_iff_lt_or_eq.mp he with h' | h'
      · exact (hle e h').trans hc.le
      · rw [Fin.ext h']
  · refine ⟨i, by omega, ?_, hlt, fun e he => ?_⟩
    · have : (if a k < a i then a i else a k) = a i := by
        split
        · rfl
        · exact le_antisymm hc (not_lt.mp (by assumption))
      rcases hc.lt_or_eq with h' | h'
      · simp [better, h']
      · simp [better, h', hslt]
    · rcases Nat.lt_succ_iff_lt_or_eq.mp he with h' | h'
      · exact hle e h'
      · rw [Fin.ext h']; exact hc

/-- The fold over the five pairs in order from (minus infinity, 0) ends at a position that picks the weight. -/
theorem fold_first (a : Fin 5 → EReal) :
    ∃ i : Fin 5, (List.foldl better (⊥, 0#32) [(a 0, 0#32), (a 1, 1#32), (a 2, 2#32), (a 3, 3#32), (a 4, 4#32)]).2
        = BitVec.ofNat 32 i ∧ ∀ w : Fin 5 → EReal, w i = chosen a w := by
  have h := leads_step a 4 _ (leads_step a 3 _ (leads_step a 2 _ (leads_step a 1 _ (leads_one a))))
  obtain ⟨i, -, hs, hlt, hle⟩ := h
  refine ⟨i, congrArg Prod.snd hs, fun w => chosen_of_first a w i hlt fun e => hle e (by have := e.isLt; show (e : ℕ) < 5; omega)⟩

/-- One bit for each of five tests; the last test's selection outermost, each guarded by "no earlier test held". The chain
    picks the first test that holds. -/
theorem chain (p0 p1 p2 p3 p4 : Prop) [Decidable p0] [Decidable p1] [Decidable p2] [Decidable p3] [Decidable p4]
    (w0 w1 w2 w3 w4 : EReal) :
    Scalar.select
      (IntOp.andi (BitVec.ofBool (decide p4))
        (IntOp.xori (IntOp.ori (IntOp.ori (IntOp.ori (IntOp.ori 0#1 (BitVec.ofBool (decide p0))) (BitVec.ofBool (decide p1)))
          (BitVec.ofBool (decide p2))) (BitVec.ofBool (decide p3))) 1#1)) w4
      (Scalar.select
        (IntOp.andi (BitVec.ofBool (decide p3))
          (IntOp.xori (IntOp.ori (IntOp.ori (IntOp.ori 0#1 (BitVec.ofBool (decide p0))) (BitVec.ofBool (decide p1)))
            (BitVec.ofBool (decide p2))) 1#1)) w3
        (Scalar.select
          (IntOp.andi (BitVec.ofBool (decide p2))
            (IntOp.xori (IntOp.ori (IntOp.ori 0#1 (BitVec.ofBool (decide p0))) (BitVec.ofBool (decide p1))) 1#1)) w2
          (Scalar.select
            (IntOp.andi (BitVec.ofBool (decide p1)) (IntOp.xori (IntOp.ori 0#1 (BitVec.ofBool (decide p0))) 1#1)) w1
            (Scalar.select (IntOp.andi (BitVec.ofBool (decide p0)) (IntOp.xori 0#1 1#1)) w0 0))))
    = if p0 then w0 else if p1 then w1 else if p2 then w2 else if p3 then w3 else if p4 then w4 else 0 := by
  by_cases h0 : p0 <;> by_cases h1 : p1 <;> by_cases h2 : p2 <;> by_cases h3 : p3 <;> by_cases h4 : p4 <;>
    simp [h0, h1, h2, h3, h4, IntOp.andi, IntOp.ori, IntOp.xori, Scalar.select]

/-- A product kept where two words agree and zero elsewhere is the kept factor times the other. -/
theorem select_mul (u v : BitVec 32) (x y : EReal) :
    Scalar.select (IntOp.cmpi .eq u v) (x * y) 0 = (if u = v then x else 0) * y := by
  by_cases h : u = v
  · simp [h, IntOp.cmpi, Scalar.select]
  · simp [h, IntOp.cmpi, Scalar.select, beq_eq_false_iff_ne.mpr h]

end Cert.Weight

end
-- ==== Proof.BlockValue.lean ====
/- What one block of the idealized kernel computes, entry by entry, on the extended reals. -/
module

public import proofs.«01_k».proof.Proof.BodyIdeal
public import proofs.«01_k».proof.Proof.Weight
public import Idealize.ShloMosaic.Lib.Pointwise
public import Idealize.ShloMosaic.Lib.Pipeline.ValueKit

@[expose] public section

set_option maxRecDepth 16384

noncomputable section

namespace Cert.KernelIdeal.Body

open Cert.KernelIdeal.Gen
open Idealize.ShloMosaic Idealize.ShloMosaic.TcCoe

/-- The weight of node `n` of a block: of its first largest attribute. -/
def weightAt (x1 : FVec Ideal S5x8960 .f32) (x4 : FVec Ideal S1x128 .f32) (n : Fin 8960) : EReal :=
  Cert.Weight.chosen (fun e => x1 (ix2 e n))
    ![x4 (ix2 0 0), x4 (ix2 0 1), x4 (ix2 0 2), x4 (ix2 0 3), x4 (ix2 0 4)]

/-- Row `n` of the product: the selection row, the node's weight at its graph and zero elsewhere, times the table. -/
def rowAt (x0 : IVec S1x8960 32) (x1 : FVec Ideal S5x8960 .f32) (x3 : FVec Ideal S64x384 .bf16) (x4 : FVec Ideal S1x128 .f32)
    (n : Fin 8960) (l : Fin 384) : EReal :=
  ∑ g : Fin 64, (if BitVec.ofNat 32 g = x0 (ix2 0 n) then weightAt x1 x4 n else 0) * x3 (ix2 g l)

theorem product_apply (x0 : Vec Ideal S1x8960 .i32) (x1 : Vec Ideal S5x8960 .f32) (x3 : Vec Ideal S64x384 .bf16)
    (x4 : Vec Ideal S1x128 .f32) (n : Fin 8960) (l : Fin 384) :
    product x0 x1 x3 x4 (ix2 n l) = rowAt x0 x1 x3 x4 n l := by
  unfold product rowAt weightAt
  pointwise [k0_pay14, k0_pay13, k0_pay12, k0_pay11, k0_pay10, k0_pay9, k0_pay8, k0_pay7, k0_pay6, k0_pay5, k0_pay4, k0_pay3, k0_pay2]
  refine Finset.sum_congr rfl fun g _ => ?_
  rw [Cert.Weight.chain]
  exact Cert.Weight.select_mul _ _ _ _

/-- The three stored slabs, entry by entry: the feature entry plus the product's entry in the slab's third. -/
theorem first_apply (x0 : Vec Ideal S1x8960 .i32) (x1 : Vec Ideal S5x8960 .f32) (x2 : Vec Ideal S3x8960x128 .f32)
    (x3 : Vec Ideal S64x384 .bf16) (x4 : Vec Ideal S1x128 .f32) (o : Fin 1) (n : Fin 8960) (d : Fin 128) :
    first x0 x1 x2 x3 x4 (ix3 o n d) = x2 (ix3 0 n d) + rowAt x0 x1 x3 x4 n ⟨d, by omega⟩ := by
  refine Eq.trans ?_ (congrArg (x2 (ix3 0 n d) + ·) (product_apply x0 x1 x3 x4 n ⟨d, by omega⟩))
  unfold first k0_pay15
  pointwise [product]
theorem second_apply (x0 : Vec Ideal S1x8960 .i32) (x1 : Vec Ideal S5x8960 .f32) (x2 : Vec Ideal S3x8960x128 .f32)
    (x3 : Vec Ideal S64x384 .bf16) (x4 : Vec Ideal S1x128 .f32) (o : Fin 1) (n : Fin 8960) (d : Fin 128) :
    second x0 x1 x2 x3 x4 (ix3 o n d) = x2 (ix3 1 n d) + rowAt x0 x1 x3 x4 n ⟨128 + d, by omega⟩ := by
  refine Eq.trans ?_ (congrArg (x2 (ix3 1 n d) + ·) (product_apply x0 x1 x3 x4 n ⟨128 + d, by omega⟩))
  unfold second k0_pay16
  pointwise [product]
theorem third_apply (x0 : Vec Ideal S1x8960 .i32) (x1 : Vec Ideal S5x8960 .f32) (x2 : Vec Ideal S3x8960x128 .f32)
    (x3 : Vec Ideal S64x384 .bf16) (x4 : Vec Ideal S1x128 .f32) (o : Fin 1) (n : Fin 8960) (d : Fin 128) :
    k0_pay1 (product x0 x1 x3 x4) (k0_pay17 (View.ld x2 slab2)) (ix3 o n d)
      = x2 (ix3 2 n d) + rowAt x0 x1 x3 x4 n ⟨256 + d, by omega⟩ := by
  refine Eq.trans ?_ (congrArg (x2 (ix3 2 n d) + ·) (product_apply x0 x1 x3 x4 n ⟨256 + d, by omega⟩))
  unfold k0_pay1 k0_pay17
  pointwise

/-- An entry of the result's buffer from its three coordinates: the feature entry plus the product's entry in the third
    that the slab takes. -/
def entryAt (x0 : IVec S1x8960 32) (x1 : FVec Ideal S5x8960 .f32) (x2 : FVec Ideal S3x8960x128 .f32)
    (x3 : FVec Ideal S64x384 .bf16) (x4 : FVec Ideal S1x128 .f32) (k : Fin 3) (n : Fin 8960) (d : Fin 128) : EReal :=
  x2 (ix3 k n d) + rowAt x0 x1 x3 x4 n ⟨k * 128 + d, by omega⟩

/-- The result's buffer, entry by entry. -/
theorem slabs_apply (x0 : Vec Ideal S1x8960 .i32) (x1 : Vec Ideal S5x8960 .f32) (x2 : Vec Ideal S3x8960x128 .f32)
    (x3 : Vec Ideal S64x384 .bf16) (x4 : Vec Ideal S1x128 .f32) (y : S3x8960x128.Idx) :
    slabs x0 x1 x2 x3 x4 y = entryAt x0 x1 x2 x3 x4 (y 0) (y 1) (y 2) := by
  have key : ∀ (k : Fin 3) (n : Fin 8960) (d : Fin 128) (l : Fin 384), (y 0 : ℕ) = k → (y 1 : ℕ) = n → (y 2 : ℕ) = d →
      (l : ℕ) = k * 128 + d → x2 (ix3 k n d) + rowAt x0 x1 x3 x4 n l = entryAt x0 x1 x2 x3 x4 (y 0) (y 1) (y 2) := by
    intro k n d l e0 e1 e2 el
    obtain rfl : k = y 0 := Fin.ext e0.symm
    obtain rfl : n = y 1 := Fin.ext e1.symm
    obtain rfl : d = y 2 := Fin.ext e2.symm
    unfold entryAt
    exact congrArg (fun l => x2 (ix3 (y 0) (y 1) (y 2)) + rowAt x0 x1 x3 x4 (y 1) l) (Fin.ext el)
  unfold slabs
  canon_tiles x h
  · refine (congrArg _ (eq_ix3 x)).trans ((third_apply x0 x1 x2 x3 x4 (x 0) (x 1) (x 2)).trans ?_)
    exact key 2 (x 1) (x 2) _ (by rw [h0]; simp) h1 h2 rfl
  · refine (congrArg _ (eq_ix3 x)).trans ((second_apply x0 x1 x2 x3 x4 (x 0) (x 1) (x 2)).trans ?_)
    exact key 1 (x 1) (x 2) _ (by rw [h0]; simp) h1 h2 rfl
  · refine (congrArg _ (eq_ix3 x)).trans ((first_apply x0 x1 x2 x3 x4 (x 0) (x 1) (x 2)).trans ?_)
    exact key 0 (x 1) (x 2) _ (by rw [h0]; simp) h1 h2 (by simp)

/-- An entry depends only on its own node's column of the batch and attribute rows and its own feature entry. -/
theorem entryAt_congr {x0 x0' : IVec S1x8960 32} {x1 x1' : FVec Ideal S5x8960 .f32} {x2 x2' : FVec Ideal S3x8960x128 .f32}
    (x3 : FVec Ideal S64x384 .bf16) (x4 : FVec Ideal S1x128 .f32) (k : Fin 3) (n : Fin 8960) (d : Fin 128)
    (h0 : x0 (ix2 0 n) = x0' (ix2 0 n)) (h1 : ∀ e : Fin 5, x1 (ix2 e n) = x1' (ix2 e n))
    (h2 : x2 (ix3 k n d) = x2' (ix3 k n d)) : entryAt x0 x1 x2 x3 x4 k n d = entryAt x0' x1' x2' x3 x4 k n d := by
  unfold entryAt rowAt weightAt
  rw [h0, h2, show (fun e => x1 (ix2 e n)) = fun e => x1' (ix2 e n) from funext h1]

end Cert.KernelIdeal.Body

end
-- ==== Proof.Blocks.lean ====
/- The idealized kernel's input blocks at a node inside the array: each is the region-entry array at that node, whatever
   lies past the array's end. Hence the result's buffer, on the nodes inside the array, is determined by the arrays. -/
module

public import proofs.«01_k».proof.Proof.DataIdeal
public import proofs.«01_k».proof.Proof.BlockValue
public import Idealize.ShloMosaic.Lib.Pipeline.ValueKit

@[expose] public section

set_option maxRecDepth 16384

noncomputable section

namespace Cert.KernelIdeal.Body

open Cert.KernelIdeal Cert.KernelIdeal.Gen
open Idealize.ShloMosaic Idealize.ShloMosaic.TcCoe
open Idealize.ShloMosaic.Pipeline (Dat Window)

variable (m : (ℓ : Loc nD τ sig) → Buf (Elt Ideal) ℓ)

/-- Every window's block index at a grid point. -/
theorem index_at : ∀ t : Fin cfg0.N, win0_0.index t = ![0, t.val] ∧ win0_1.index t = ![0, t.val]
    ∧ win0_2.index t = ![0, t.val, 0] ∧ win0_3.index t = ![0, 0] ∧ win0_4.index t = ![0, 0]
    ∧ win0_5.index t = ![0, t.val, 0] :=
  (by decide +kernel : ∀ t : Fin grid0.N, _)

/-- How much of each block lies inside the array. -/
theorem size_at : ∀ t : Fin cfg0.N,
    (win0_0.xsize (grid0.coords t) 0 = 1 ∧ win0_0.xsize (grid0.coords t) 1 = min 8960 (100000 - t.val * 8960))
    ∧ (win0_1.xsize (grid0.coords t) 0 = 5 ∧ win0_1.xsize (grid0.coords t) 1 = min 8960 (100000 - t.val * 8960))
    ∧ (win0_2.xsize (grid0.coords t) 0 = 3 ∧ win0_2.xsize (grid0.coords t) 1 = min 8960 (100000 - t.val * 8960)
      ∧ win0_2.xsize (grid0.coords t) 2 = 128)
    ∧ (win0_5.xsize (grid0.coords t) 0 = 3 ∧ win0_5.xsize (grid0.coords t) 1 = min 8960 (100000 - t.val * 8960)
      ∧ win0_5.xsize (grid0.coords t) 2 = 128) :=
  (by decide +kernel : ∀ t : Fin grid0.N, _)

/-- The batch block at a node inside the array. -/
theorem batchAt_apply (c : Dev nD) (t : Fin cfg0.N) (d) (n : Fin 8960) (h : t.val * 8960 + n < 100000) :
    batchAt m c t d (ix2 0 n) = V m c main_call0_v2 (ix2 0 ⟨t.val * 8960 + n, h⟩) := by
  have hm : win0_0.moved (grid0.coords t) (ix2 0 n) = true := by
    rw [Window.moved_iff]
    obtain ⟨⟨e0, e1⟩, -⟩ := size_at t
    intro a
    match a with
    | ⟨0, _⟩ => exact Nat.lt_of_lt_of_eq (show (0 : ℕ) < 1 by omega) e0.symm
    | ⟨1, _⟩ => exact Nat.lt_of_lt_of_eq (show (n : ℕ) < min 8960 (100000 - t.val * 8960) by omega) e1.symm
  unfold batchAt Window.fill
  rw [dif_pos hm]
  blk_ext [iblk, index_at t]

/-- The attribute block at a node inside the array. -/
theorem attrsAt_apply (c : Dev nD) (t : Fin cfg0.N) (d) (e : Fin 5) (n : Fin 8960) (h : t.val * 8960 + n < 100000) :
    attrsAt m c t d (ix2 e n) = V m c main_call0_v1 (ix2 e ⟨t.val * 8960 + n, h⟩) := by
  have hm : win0_1.moved (grid0.coords t) (ix2 e n) = true := by
    rw [Window.moved_iff]
    obtain ⟨-, ⟨e0, e1⟩, -⟩ := size_at t
    intro a
    match a with
    | ⟨0, _⟩ => exact Nat.lt_of_lt_of_eq e.isLt e0.symm
    | ⟨1, _⟩ => exact Nat.lt_of_lt_of_eq (show (n : ℕ) < min 8960 (100000 - t.val * 8960) by omega) e1.symm
  unfold attrsAt Window.fill
  rw [dif_pos hm]
  blk_ext [iblk, index_at t]

/-- The feature block at a node inside the array. -/
theorem featsAt_apply (c : Dev nD) (t : Fin cfg0.N) (d) (k : Fin 3) (n : Fin 8960) (l : Fin 128)
    (h : t.val * 8960 + n < 100000) :
    featsAt m c t d (ix3 k n l) = V m c main_call0_v0 (ix3 k ⟨t.val * 8960 + n, h⟩ l) := by
  have hm : win0_2.moved (grid0.coords t) (ix3 k n l) = true := by
    rw [Window.moved_iff]
    obtain ⟨-, -, ⟨e0, e1, e2⟩, -⟩ := size_at t
    intro a
    match a with
    | ⟨0, _⟩ => exact Nat.lt_of_lt_of_eq k.isLt e0.symm
    | ⟨1, _⟩ => exact Nat.lt_of_lt_of_eq (show (n : ℕ) < min 8960 (100000 - t.val * 8960) by omega) e1.symm
    | ⟨2, _⟩ => exact Nat.lt_of_lt_of_eq l.isLt e2.symm
  unfold featsAt Window.fill
  rw [dif_pos hm]
  blk_ext [iblk, index_at t]

/-- The table's block is the whole table. -/
theorem table_apply (c : Dev nD) (t : Fin cfg0.N) (g : Fin 64) (l : Fin 384) :
    (iblk m c 3 t : Vec Ideal S64x384 .bf16) (ix2 g l) = V m c main_call0_v9 (ix2 g l) := by
  blk_ext [iblk, index_at t]

/-- The edge weights' block is the whole row. -/
theorem weights_apply (c : Dev nD) (t : Fin cfg0.N) (l : Fin 128) :
    (iblk m c 4 t : Vec Ideal S1x128 .f32) (ix2 0 l) = V m c main_call0_v14 (ix2 0 l) := by
  blk_ext [iblk, index_at t]

/-- On the nodes inside the array the result's buffer does not depend on what lay past the arrays' ends. -/
theorem cut_slabs (c : Dev nD) (t : Fin cfg0.N) (d0 d1 d2) :
    win0_5.cut (grid0.coords t) (slabs (batchAt m c t d0) (attrsAt m c t d1) (featsAt m c t d2) (iblk m c 3 t) (iblk m c 4 t))
      = win0_5.cut (grid0.coords t) (resultAt m c t) := by
  funext j
  obtain ⟨-, -, -, -, e1, -⟩ := size_at t
  have hj : (j 1 : ℕ) < min 8960 (100000 - t.val * 8960) := Nat.lt_of_lt_of_eq (j 1).isLt e1
  have h : t.val * 8960 + (win0_5.xinj (grid0.coords t) j 1 : ℕ) < 100000 := by
    show t.val * 8960 + (j 1 : ℕ) < 100000
    omega
  refine (slabs_apply _ _ _ _ _ (win0_5.xinj (grid0.coords t) j)).trans (Eq.trans ?_ (slabs_apply _ _ _ _ _ (win0_5.xinj (grid0.coords t) j)).symm)
  exact entryAt_congr _ _ _ _ _
    ((batchAt_apply m c t d0 _ h).trans (batchAt_apply m c t noBatch _ h).symm)
    (fun e => (attrsAt_apply m c t d1 e _ h).trans (attrsAt_apply m c t noAttrs e _ h).symm)
    ((featsAt_apply m c t d2 _ _ _ h).trans (featsAt_apply m c t noFeats _ _ _ h).symm)

/-- The result's buffer handed back at its named contents inside the array, over what the body left past its end. -/
theorem refill_5 (c : Dev nD) (t : Fin cfg0.N) (d0 d1 d2) :
    slabs (batchAt m c t d0) (attrsAt m c t d1) (featsAt m c t d2) (iblk m c 3 t) (iblk m c 4 t)
      = win0_5.fill (grid0.coords t)
          (slabs (batchAt m c t d0) (attrsAt m c t d1) (featsAt m c t d2) (iblk m c 3 t) (iblk m c 4 t))
          (win0_5.cut (grid0.coords t) ((dats m 0 c).after 5 t)) := by
  rw [after_5, ← cut_slabs m c t d0 d1 d2, win0_5.fill_cut]

end Cert.KernelIdeal.Body

end
-- ==== Proof.RunIdeal.lean ====
/- The idealized kernel's run: the body at every grid point leaves the named contents inside the arrays, so every run of
   @main ends with the pipeline's arrays at their named contents, the arguments unchanged and the counters at zero. -/
module

public import proofs.«01_k».proof.Proof.Blocks
public import Idealize.ShloMosaic.Lib.Pipeline.FrameSuffix
public import Idealize.ShloMosaic.Lib.Pipeline.Quiescent

@[expose] public section

set_option maxRecDepth 16384

noncomputable section

namespace Cert.KernelIdeal.Body

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

local notation "𝕄" => MT nD τ sig Unit (Elt Ideal) ℕ (UR sig nD τ) ℕ

variable (m : (ℓ : Loc nD τ sig) → Buf (Elt Ideal) ℓ) (ρ : Dev nD → PrngReg)

/-- The body at any point: every buffer comes back at its named contents inside its array. -/
theorem obligation (c : Dev nD) :
    BodyObligationLoose (dats (F := Ideal) m 0 c) (defs₀ (F := Ideal)) Variants.none () Set.univ := fun t => by
  rw [bigSep_W0, bigSep_W0]
  rw [show (dats m 0 c).Φ t.succ = (dats m 0 c).Φ t.castSucc from rfl,
    show (dats m 0 c).owesAt () t.succ = (dats m 0 c).owesAt () t.castSucc from rfl]
  iintro ⟨HΦ, Ho, ⟨%d0, H0⟩, ⟨%d1, H1⟩, ⟨%d2, H2⟩, ⟨%d3, H3⟩, ⟨%d4, H4⟩, ⟨%d5, H5⟩⟩
  rw [before_0 m c t d0, before_1 m c t d1, before_2 m c t d2, before_3 m c t d3, before_4 m c t d4]
  iapply (run_body (F := Ideal) c Set.univ (grid0.coords t) _ _ _ _ _ _ _ _ _ _ _ _ (batchAt m c t d0) (attrsAt m c t d1)
    (featsAt m c t d2) (iblk m c 3 t) (iblk m c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]
  · iexists d0
    iapply (owns_congr c (win0_0.stage (cfg0.slots t 0)) (refill_0 m c t d0))
    iexact H0
  isplitl [H1]
  · iexists d1
    iapply (owns_congr c (win0_1.stage (cfg0.slots t 1)) (refill_1 m c t d1))
    iexact H1
  isplitl [H2]
  · iexists d2
    iapply (owns_congr c (win0_2.stage (cfg0.slots t 2)) (refill_2 m c t d2))
    iexact H2
  isplitl [H3]; · iexact H3
  isplitl [H4]; · iexact H4
  iexists (slabs (batchAt m c t d0) (attrsAt m c t d1) (featsAt m c t d2) (iblk m c 3 t) (iblk m c 4 t))
  iapply (owns_congr c (win0_5.stage (cfg0.slots t 5)) (refill_5 m c t d0 d1 d2))
  iexact H5

-- the library theorem's implicit arguments are found by unifying its conclusion with this one, which takes unfolding plain
-- definitions in a metavariable's type
set_option backward.isDefEq.respectTransparency.types false in
/-- At the compiled mesh, from any memory with zero counters, every run of @main ends, with every array of the pipeline
    at its contents after the grid, every other buffer as the last host line leaves it, and the counters at zero. -/
theorem run_main : θ_run defs (onTc (τ := τ) (main (F := Ideal))) (s₀ m ρ)
    (fun r => Pipeline.FramePost cfgs (dats m) 0 (Pipeline.afterTail₀ cfgs (dats m) 0 (V0 m) [hostOps1]) r
      ∧ r.2.sem = fun _ => 0) :=
  Pipeline.θ_run_frame_around cfgs (dats m) (0 : Fin 1) launch0 defs₀ Variants.none m ρ main
    (hbody := obligation m) (hshare := fun c => (dats m 0 c).share_full fun _ => rfl)
    (howed := fun _ _ => rfl) (V₀ := V0 m) (opss := [hostOps1]) sfx_sub sfx_fresh sfx_keeps
    (hmain := hmain m Variants.none) (hA := A_eq m) (hΦ := fun _ _ => rfl) (Q' := _) (hQ' := fun _ h => h)

/-- The idealized kernel runs, its result the last host line's, and leaves its argument arrays unchanged, every
    semaphore counter at zero. -/
theorem run : θ_run defs (onTc (τ := τ) (main (F := Ideal))) ⟨m, fun _ => 0, ρ⟩ (fun r => (∀ c : Dev nD,
      r.2.mem ((c.tc : Thread nD τ).loc main_v0) = Pipeline.afterTail₀ cfgs (dats m) 0 (V0 m) [hostOps1] c main_v0
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) :=
  (θ_run defs _ _).mono (fun _ h => ⟨fun c =>
    ⟨(h.1 c).2 main_v0 (Pipeline.mem_restRefs_of main_v0 (by decide) (by decide)),
      ((h.1 c).2 main_arg0 (Pipeline.mem_restRefs_of main_arg0 (by decide) (by decide))).trans (W_main_arg0 m (dats m) c),
      ((h.1 c).2 main_arg1 (Pipeline.mem_restRefs_of main_arg1 (by decide) (by decide))).trans (W_main_arg1 m (dats m) c),
      ((h.1 c).2 main_arg2 (Pipeline.mem_restRefs_of main_arg2 (by decide) (by decide))).trans (W_main_arg2 m (dats m) c),
      ((h.1 c).2 main_arg3 (Pipeline.mem_restRefs_of main_arg3 (by decide) (by decide))).trans (W_main_arg3 m (dats m) c),
      ((h.1 c).2 main_arg4 (Pipeline.mem_restRefs_of main_arg4 (by decide) (by decide))).trans (W_main_arg4 m (dats m) c),
      ((h.1 c).2 main_arg5 (Pipeline.mem_restRefs_of main_arg5 (by decide) (by decide))).trans (W_main_arg5 m (dats m) c)⟩,
    h.2⟩) (run_main m ρ)

end Cert.KernelIdeal.Body

end
-- ==== Proof.RefRun.lean ====
/- The reference's run: the array it returns, written as one function of its six arguments (`value`). -/
module

public import proofs.«01_k».proof.Proof.Gen.ReferenceIdeal
public import Idealize.ShloMosaic.Lib.Claim
public import Idealize.ShloMosaic.Lib.StableHlo.RunHlo
public import Idealize.ShloMosaic.Adequacy
public import Idealize.ShloMosaic.Init
public import Idealize.ShloMosaic.PureOps.Ideal.Laws

@[expose] public section

set_option maxRecDepth 16384

noncomputable section

namespace Cert.ReferenceIdeal.Run

open Idealize.ShloMosaic Idealize.SL.Sem
open Cert.ReferenceIdeal Cert.ReferenceIdeal.Facts₀
attribute [local instance] Cert.ReferenceIdeal.Gen.facts

/-- The position of each node's largest attribute, as the reference folds them. -/
def largest (a : FVec Ideal S100000x5 .f32) : IVec S100000 32 := fun j =>
  (Host.argReduce (reducer_argmax_f32_i32 (F := Ideal)) a (iotaInDim S100000x5 32 1) (constant S_ .f32 0xFF800000#32)
    (constantI S_ 32 0#32) reducesTo_S100000x5_S100000_d1 h_S_ j).2

/-- Indices into a table of `n` rows as a column, a negative one counted from the table's end. -/
def column (n : BitVec 32) (b : IVec S100000 32) : IVec S100000x1 32 :=
  broadcastInDim S100000x1 ![0] bcast_S100000_S100000x1_0
    (select (cmpi .slt b (broadcastInDim S100000 ![] bcast_S_S100000 (constantI S_ 32 0#32)))
      (addi b (broadcastInDim S100000 ![] bcast_S_S100000 (constantI S_ 32 n))) b)

/-- Whether each of the column's indices lies between zero and `hi`. -/
def inside (hi : BitVec 32) (i : IVec S100000x1 32) : IVec S100000 1 :=
  Host.reduce IntOp.andi
    (andi (cmpi .sge i (broadcastInDim S100000x1 ![] bcast_S_S100000x1 (constantI S_ 32 0#32)))
      (cmpi .sle i (broadcastInDim S100000x1 ![0, 1] bcast_S1x1_S100000x1_0_1
        (broadcastInDim S1x1 ![1] bcast_S1_S1x1_1 (constantI S1 32 hi)))))
    (constantI S_ 1 1#1) reducesTo_S100000x1_S100000_d1 h_S_

/-- The rows of the field table that the nodes' graph numbers select. -/
def labels (fld : FVec Ideal S64x3 .f32) (b : IVec S100000 32) : FVec Ideal S100000x3 .f32 :=
  select (broadcastInDim S100000x3 ![0] bcast_S100000_S100000x3_0 (inside 63#32 (column 64#32 b)))
    (Host.gather gather_S64x3_S100000x1_S100000x3_1_0_n_n_0_1_13 fld (column 64#32 b))
    (broadcastInDim S100000x3 ![] bcast_S_S100000x3 (constant S_ .f32 0x7FC00000#32))

/-- The element weights that the nodes' elements select. -/
def weights (w : FVec Ideal S5 .f32) (e : IVec S100000 32) : FVec Ideal S100000 .f32 :=
  select (inside 4#32 (column 5#32 e)) (Host.gather gather_S5_S100000x1_S100000_n_0_n_n_0_1_1 w (column 5#32 e))
    (broadcastInDim S100000 ![] bcast_S_S100000 (constant S_ .f32 0x7FC00000#32))

/-- What the reference returns. -/
def value (b : IVec S100000 32) (x : FVec Ideal S100000x128x3 .f32) (a : FVec Ideal S100000x5 .f32)
    (fld : FVec Ideal S64x3 .f32) (w : FVec Ideal S5 .f32) (cw : FVec Ideal S128 .f32) : FVec Ideal S100000x128x3 .f32 :=
  addf x (mulf
    (broadcastInDim S100000x128x3 ![0, 1, 2] bcast_S100000x1x3_S100000x128x3_0_1_2
      (mulf (broadcastInDim S100000x1x3 ![0, 2] bcast_S100000x3_S100000x1x3_0_2 (labels fld b))
        (broadcastInDim S100000x1x3 ![0, 1, 2] bcast_S100000x1x1_S100000x1x3_0_1_2
          (shapeCast S100000x1x1 (weights w (largest a)) shapeCasts_S100000_S100000x1x1))))
    (broadcastInDim S100000x128x3 ![0, 1, 2] bcast_S1x128x1_S100000x128x3_0_1_2
      (shapeCast S1x128x1 cw shapeCasts_S128_S1x128x1)))

set_option maxHeartbeats 3200000 in
/-- Every run of the reference ends with its result at `value` of its arguments, and the arguments unchanged. -/
theorem run (m : (ℓ : Loc nD τ sig) → Buf (Elt Ideal) ℓ) (g : Dev nD → PrngReg) :
    θ_run (defs (F := Ideal)) (onTc (τ := τ) (main (F := Ideal))) ⟨m, fun _ => 0, g⟩ (fun r => ∀ c : Dev nD,
      r.2.mem ((c.tc : Thread nD τ).loc main_v11)
          = value (m ((c.tc : Thread nD τ).loc main_arg0)) (m ((c.tc : Thread nD τ).loc main_arg1))
              (m ((c.tc : Thread nD τ).loc main_arg2)) (m ((c.tc : Thread nD τ).loc main_arg3))
              (m ((c.tc : Thread nD τ).loc main_arg4)) (m ((c.tc : Thread nD τ).loc main_arg5))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) := by
  hlo_run
  simp only [StableHlo.TRef.ofBuf, StableHlo.TRef.toBuf, cast_cast, cast_eq]
  rfl

/-- The same with every semaphore counter at zero: the reference has none. -/
theorem unchanged (m : (ℓ : Loc nD τ sig) → Buf (Elt Ideal) ℓ) (g : Dev nD → PrngReg) :
    θ_run (defs (F := Ideal)) (onTc (τ := τ) (main (F := Ideal))) ⟨m, fun _ => 0, g⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) :=
  (θ_run (defs (F := Ideal)) _ _).mono (fun r h => ⟨fun c => (h c).2, sem_eq_zero_of_no_sems (by decide) r.2⟩) (run m g)

end Cert.ReferenceIdeal.Run

end
-- ==== Proof.HostPrefix.lean ====
/- The idealized kernel's arrays when the pipeline starts, entry by entry in the arguments: the host lines before it only
   transpose, reshape, spread and place, and form the products of the field and the channel weights. -/
module

public import proofs.«01_k».proof.Proof.Gen.KernelIdeal.Frame
public import Idealize.ShloMosaic.Lib.Pipeline.ValueKit
public import Idealize.ShloMosaic.Lib.Routing.OpsOne
public import Idealize.ShloMosaic.PureOps.Ideal.Laws

@[expose] public section

set_option maxRecDepth 16384

noncomputable section

namespace Cert.KernelIdeal.Host

open Cert.KernelIdeal Cert.KernelIdeal.Gen
open Idealize.ShloMosaic Idealize.ShloMosaic.TcCoe

variable (m : (ℓ : Loc nD τ sig) → Buf (Elt Ideal) ℓ)

/-- The batch numbers, features, attributes, field, edge weights and channel weights on a core, at their literal types. -/
abbrev batch (c : Dev nD) : Vec Ideal S100000 .i32 := m ((c : Thread nD τ).loc main_arg0)
abbrev feats (c : Dev nD) : Vec Ideal S100000x128x3 .f32 := m ((c : Thread nD τ).loc main_arg1)
abbrev attrs (c : Dev nD) : Vec Ideal S100000x5 .f32 := m ((c : Thread nD τ).loc main_arg2)
abbrev field (c : Dev nD) : Vec Ideal S64x3 .f32 := m ((c : Thread nD τ).loc main_arg3)
abbrev edges (c : Dev nD) : Vec Ideal S5 .f32 := m ((c : Thread nD τ).loc main_arg4)
abbrev chans (c : Dev nD) : Vec Ideal S128 .f32 := m ((c : Thread nD τ).loc main_arg5)

/-- The batch row's term: the batch numbers reshaped to a row. -/
theorem batch_eq (c : Dev nD) : V m c main_call0_v2 = shapeCast S1x100000 (batch m c) shapeCasts_S100000_S1x100000 := by
  show StableHlo.after (List.flatten [hostOps0]) (fun b => m (c, b)) (Proc.devRef .tc main_call0_v2) = _
  simp only [List.flatten_cons, List.flatten_nil, List.append_nil, StableHlo.after_cons, StableHlo.after_nil]
  after_results_steps
  rfl

/-- The attribute rows' term: the attributes transposed. -/
theorem attrs_eq (c : Dev nD) : V m c main_call0_v1 = transpose S5x100000 [1, 0] (attrs m c) transposes_S100000x5_S5x100000_1_0 := by
  show StableHlo.after (List.flatten [hostOps0]) (fun b => m (c, b)) (Proc.devRef .tc main_call0_v1) = _
  after_results
  rfl

/-- The feature slabs' term: the features transposed. -/
theorem feats_eq (c : Dev nD) : V m c main_call0_v0 = transpose S3x100000x128 [2, 0, 1] (feats m c) transposes_S100000x128x3_S3x100000x128_2_0_1 := by
  show StableHlo.after (List.flatten [hostOps0]) (fun b => m (c, b)) (Proc.devRef .tc main_call0_v0) = _
  after_results
  rfl

/-- The table's term: the field and the channel weights spread to one shape, multiplied and flattened. -/
theorem table_eq (c : Dev nD) : V m c main_call0_v9 = truncf (F := Ideal) .bf16 (shapeCast S64x384 (mulf
      (broadcastInDim S64x3x128 ![0, 1, 2] bcast_S64x3x1_S64x3x128_0_1_2 (broadcastInDim S64x3x1 ![0, 1] bcast_S64x3_S64x3x1_0_1 (field m c)))
      (broadcastInDim S64x3x128 ![0, 1, 2] bcast_S1x1x128_S64x3x128_0_1_2 (broadcastInDim S1x1x128 ![2] bcast_S128_S1x1x128_2 (chans m c))))
      shapeCasts_S64x3x128_S64x384) bitsLt_bf16_f32 := by
  show StableHlo.after (List.flatten [hostOps0]) (fun b => m (c, b)) (Proc.devRef .tc main_call0_v9) = _
  after_results
  rfl

/-- The pair of zero index words. -/
def origin : IVec S2 32 := concatenate S2 0 [⟨S1, broadcastInDim S1 ![] bcast_S_S1 (constantI S_ 32 0#32)⟩,
  ⟨S1, broadcastInDim S1 ![] bcast_S_S1 (constantI S_ 32 0#32)⟩] concatenates_S1_S1_S2_d0

/-- The padded row's term: the edge weights placed into zeros at the origin. -/
theorem edges_eq (c : Dev nD) : V m c main_call0_v14 = Host.scatter scatter_S1x128_S2_S5_0_0_01_0 (fun _ b => b)
      (broadcastInDim S1x128 ![] bcast_S_S1x128 (constant (F := Ideal) S_ .f32 0x00000000#32)) origin (edges m c) := by
  show StableHlo.after (List.flatten [hostOps0]) (fun b => m (c, b)) (Proc.devRef .tc main_call0_v14) = _
  after_results
  rfl

/-- The batch row holds each node's batch number. -/
theorem batch_at (c : Dev nD) (p : Fin 100000) : V m c main_call0_v2 (ix2 0 p) = batch m c (ix1 p) := by
  rw [batch_eq]
  pointwise

/-- The attribute rows are the attributes transposed. -/
theorem attrs_at (c : Dev nD) (e : Fin 5) (p : Fin 100000) : V m c main_call0_v1 (ix2 e p) = attrs m c (ix2 p e) := by
  rw [attrs_eq]
  pointwise

/-- The feature slabs are the features with the last axis first. -/
theorem feats_at (c : Dev nD) (k : Fin 3) (p : Fin 100000) (d : Fin 128) :
    V m c main_call0_v0 (ix3 k p d) = feats m c (ix3 p d k) := by
  rw [feats_eq]
  pointwise

/-- The table holds the products of the field and the channel weights. -/
theorem table_at (c : Dev nD) (g : Fin 64) (k : Fin 3) (d : Fin 128) (l : Fin 384) (hl : (l : ℕ) = k * 128 + d) :
    V m c main_call0_v9 (ix2 g l) = (field m c (ix2 g k) : EReal) * chans m c (ix1 d) := by
  rw [table_eq]
  pointwise
  have hk : (l : ℕ) / 128 = k := by omega
  have hd : (l : ℕ) % 128 = d := by omega
  exact congrArg₂ (fun (a : Fin 3) (b : Fin 128) => (field m c (ix2 g a) : EReal) * chans m c (ix1 b)) (Fin.ext hk) (Fin.ext hd)

/-- Which entry of the padded row each edge weight is placed at. -/
theorem lands (k : Fin 5) (r : Fin 1) (l : Fin 128) :
    scatter_S1x128_S2_S5_0_0_01_0.resultIdx? (ix1 k) origin = some (ix2 r l) ↔ (k : ℕ) = l := by
  have w0 : scatter_S1x128_S2_S5_0_0_01_0.window (ix1 k) 0 = 0 := by
    rfl
  have w1 : scatter_S1x128_S2_S5_0_0_01_0.window (ix1 k) 1 = k.val := by
    rfl
  have o0 : (origin (ix1 0)).toInt = 0 := by
    rfl
  have o1 : (origin (ix1 1)).toInt = 0 := by
    rfl
  refine (Routing.resultIdx?_ix2 scatter_S1x128_S2_S5_0_0_01_0 (ix1 k) origin r l).trans ?_
  have s0 : scatter_S1x128_S2_S5_0_0_01_0.start (ix1 k) origin 0 = 0 := (Routing.start_pair _ rfl rfl _ _ 0).trans o0
  have s1 : scatter_S1x128_S2_S5_0_0_01_0.start (ix1 k) origin 1 = 0 := (Routing.start_pair _ rfl rfl _ _ 1).trans o1
  rw [s0, s1, w0, w1]
  omega

/-- The padded row starts with the edge weights. -/
theorem edges_at (c : Dev nD) (e : Fin 5) (l : Fin 128) (hl : (l : ℕ) = e) :
    V m c main_call0_v14 (ix2 0 l) = edges m c (ix1 e) := by
  rw [edges_eq]
  refine Routing.scatter_set_hit _ _ _ _ _ _ (fun k hk => ?_) (ix1 e) ((lands e 0 l).2 hl.symm)
  obtain rfl : e = k 0 := Fin.ext (hl.symm.trans ((lands (k 0) 0 l).1 ((congrArg (fun t => scatter_S1x128_S2_S5_0_0_01_0.resultIdx? t origin) (eq_ix1 k).symm).trans hk)).symm)
  exact congrArg _ (eq_ix1 k)

end Cert.KernelIdeal.Host

end
-- ==== Proof.ArrayValue.lean ====
/- The idealized kernel's result, entry by entry in the arguments: the pipeline's result array from its blocks, then the
   last host line, which moves the first axis last. -/
module

public import proofs.«01_k».proof.Proof.RunIdeal
public import proofs.«01_k».proof.Proof.HostPrefix

@[expose] public section

set_option maxRecDepth 16384

noncomputable section

namespace Cert.KernelIdeal.Host

open Cert.KernelIdeal Cert.KernelIdeal.Gen Cert.KernelIdeal.Body
open Idealize.ShloMosaic Idealize.ShloMosaic.TcCoe
open Idealize.ShloMosaic.Pipeline (Dat Window)

variable (m : (ℓ : Loc nD τ sig) → Buf (Elt Ideal) ℓ)

/-- A result entry in the arguments: the feature entry plus the products of the node's edge weight, where the batch
    number is the node's, with the table's entries. -/
def entry (b : IVec S100000 32) (x : FVec Ideal S100000x128x3 .f32) (a : FVec Ideal S100000x5 .f32)
    (fld : FVec Ideal S64x3 .f32) (w : FVec Ideal S5 .f32) (cw : FVec Ideal S128 .f32) (k : Fin 3) (p : Fin 100000)
    (d : Fin 128) : EReal :=
  x (ix3 p d k) + ∑ g : Fin 64, (if BitVec.ofNat 32 g = b (ix1 p)
    then Cert.Weight.chosen (fun e => a (ix2 p e)) (fun e => w (ix1 e)) else 0) * (fld (ix2 g k) * cw (ix1 d))

/-- The entry depends on its coordinates' values only. -/
theorem entry_congr (b : IVec S100000 32) (x : FVec Ideal S100000x128x3 .f32) (a : FVec Ideal S100000x5 .f32)
    (fld : FVec Ideal S64x3 .f32) (w : FVec Ideal S5 .f32) (cw : FVec Ideal S128 .f32) {k k' : Fin 3} {p p' : Fin 100000}
    {d d' : Fin 128} (hk : (k : ℕ) = k') (hp : (p : ℕ) = p') (hd : (d : ℕ) = d') :
    entry b x a fld w cw k p d = entry b x a fld w cw k' p' d' := by
  rw [Fin.ext hk, Fin.ext hp, Fin.ext hd]

/-- What one block leaves at a node inside the array is the entry of that node. -/
theorem block_entry (c : Dev nD) (t : Fin cfg0.N) (k : Fin 3) (n : Fin 8960) (d : Fin 128) (h : t.val * 8960 + n < 100000) :
    entryAt (batchAt m c t noBatch) (attrsAt m c t noAttrs) (featsAt m c t noFeats) (iblk m c 3 t) (iblk m c 4 t) k n d
      = entry (batch m c) (feats m c) (attrs m c) (field m c) (edges m c) (chans m c) k ⟨t.val * 8960 + n, h⟩ d := by
  have hb : batchAt m c t noBatch (ix2 0 n) = batch m c (ix1 ⟨t.val * 8960 + n, h⟩) :=
    (batchAt_apply m c t _ n h).trans (batch_at m c _)
  have ha : (fun e : Fin 5 => attrsAt m c t noAttrs (ix2 e n)) = fun e => attrs m c (ix2 ⟨t.val * 8960 + n, h⟩ e) :=
    funext fun e => (attrsAt_apply m c t _ e n h).trans (attrs_at m c e _)
  have hx : featsAt m c t noFeats (ix3 k n d) = feats m c (ix3 ⟨t.val * 8960 + n, h⟩ d k) :=
    (featsAt_apply m c t _ k n d h).trans (feats_at m c k _ d)
  have hw : ∀ (e : Fin 5) (l : Fin 128), (l : ℕ) = e → (iblk m c 4 t : Vec Ideal S1x128 .f32) (ix2 0 l) = edges m c (ix1 e) :=
    fun e l hl => (weights_apply m c t l).trans (edges_at m c e l hl)
  have ht : ∀ g : Fin 64, (iblk m c 3 t : Vec Ideal S64x384 .bf16) (ix2 g ⟨k * 128 + d, by omega⟩)
      = (field m c (ix2 g k) : EReal) * chans m c (ix1 d) :=
    fun g => (table_apply m c t g _).trans (table_at m c g k d _ rfl)
  unfold entryAt rowAt weightAt entry
  rw [hb, ha, hx, hw 0 0 rfl, hw 1 1 rfl, hw 2 2 rfl, hw 3 3 rfl, hw 4 4 rfl]
  refine congrArg _ (Finset.sum_congr rfl fun g _ => ?_)
  rw [ht g]
  refine congrArg (fun w => (if BitVec.ofNat 32 g = batch m c (ix1 ⟨t.val * 8960 + n, h⟩) then Cert.Weight.chosen _ w else 0) * _) (funext fun e => ?_)
  fin_cases e <;> rfl

/-- The pipeline's result array after the grid. -/
theorem array_value (c : Dev nD) : (dats m 0 c).arrAt 5 cfg0.N
    = fun i : S3x100000x128.Idx => entry (batch m c) (feats m c) (attrs m c) (field m c) (edges m c) (chans m c) (i 0) (i 1) (i 2) := by
  refine (dats m 0 c).arrAt_eq_of_covers 5 _ (by decide +kernel) fun t hf y => ?_
  obtain ⟨-, -, -, -, e1, -⟩ := size_at t
  have hy : (y 1 : ℕ) < min 8960 (100000 - t.val * 8960) := Nat.lt_of_lt_of_eq (y 1).isLt e1
  have h : t.val * 8960 + (win0_5.xinj (grid0.coords t) y 1 : ℕ) < 100000 := by
    show t.val * 8960 + (y 1 : ℕ) < 100000
    omega
  have key : (dats m 0 c).after 5 t (win0_5.xinj (grid0.coords t) y)
      = entry (batch m c) (feats m c) (attrs m c) (field m c) (edges m c) (chans m c) (win0_5.xinj (grid0.coords t) y 0)
          ⟨t.val * 8960 + (win0_5.xinj (grid0.coords t) y 1 : ℕ), h⟩ (win0_5.xinj (grid0.coords t) y 2) := by
    rw [after_5]
    exact (slabs_apply _ _ _ _ _ _).trans (block_entry m c t _ _ _ h)
  have place : ∀ a, (((cfg0.win 5).blk t).view.emb y a : ℕ) = win0_5.index t a * win0_5.size a + (y a : ℕ) := by
    intro a
    blk_simp
  obtain ⟨-, -, -, -, -, ei⟩ := index_at t
  have p0 : (((cfg0.win 5).blk t).view.emb y 0 : ℕ) = (y 0 : ℕ) := by
    rw [place 0, ei]
    exact (congrArg (· + (y 0 : ℕ)) (Nat.zero_mul _)).trans (Nat.zero_add _)
  have p1 : (((cfg0.win 5).blk t).view.emb y 1 : ℕ) = t.val * 8960 + (y 1 : ℕ) := by
    rw [place 1, ei]
    rfl
  have p2 : (((cfg0.win 5).blk t).view.emb y 2 : ℕ) = (y 2 : ℕ) := by
    rw [place 2, ei]
    exact (congrArg (· + (y 2 : ℕ)) (Nat.zero_mul _)).trans (Nat.zero_add _)
  exact key.trans (entry_congr _ _ _ _ _ _ p0.symm p1.symm p2.symm)

/-- The kernel's result after the last host line, at node `p`, channel `d`, component `k`. -/
theorem result_value (c : Dev nD) (p : Fin 100000) (d : Fin 128) (k : Fin 3) :
    (Pipeline.afterTail₀ cfgs (dats m) 0 (V0 m) [hostOps1] c main_v0 : Vec Ideal S100000x128x3 .f32) (ix3 p d k)
      = entry (batch m c) (feats m c) (attrs m c) (field m c) (edges m c) (chans m c) k p d := by
  have e : Pipeline.afterTail₀ cfgs (dats m) 0 (V0 m) [hostOps1] c main_v0
      = transpose S100000x128x3 [1, 2, 0] ((dats m 0 c).arrAt 5 cfg0.N : Vec Ideal S3x100000x128 .f32) transposes_S3x100000x128_S100000x128x3_1_2_0 := by
    show StableHlo.after (List.flatten [hostOps1]) (Pipeline.withArrays spec0 c (V0 m c) fun w : Fin cfg0.W => (dats m 0 c).arrAt w cfg0.N) (Proc.devRef .tc main_v0) = _
    after_results
    exact congrArg (fun v : Vec Ideal S3x100000x128 .f32 => transpose S100000x128x3 [1, 2, 0] v transposes_S3x100000x128_S100000x128x3_1_2_0)
      (Pipeline.withArrays_arr spec0 launch0.win.arr_inj c (V0 m c) (fun w : Fin cfg0.W => (dats m 0 c).arrAt w cfg0.N) 5)
  rw [e, array_value]
  pointwise

end Cert.KernelIdeal.Host

end
-- ==== Proof.RefValue.lean ====
/- The reference's result at an index: when every graph number lies in the field table, the entry of the feature array
   plus (field entry × weight of the node's first largest attribute) × channel weight. -/
module

public import proofs.«01_k».proof.Proof.RefRun
public import proofs.«01_k».proof.Proof.Weight
public import Idealize.ShloMosaic.Lib.Pointwise
public import Idealize.ShloMosaic.Lib.ReduceAll
public import Idealize.ShloMosaic.Lib.Routing.OpsSet

@[expose] public section

set_option maxRecDepth 16384

noncomputable section

namespace Cert.ReferenceIdeal.Run

open Idealize.ShloMosaic Idealize.SL.Sem
open Cert.ReferenceIdeal Cert.ReferenceIdeal.Facts₀
attribute [local instance] Cert.ReferenceIdeal.Gen.facts

/-- A nonnegative index stands in the column as it is. -/
theorem column_apply (n : BitVec 32) (b : IVec S100000 32) (p : Fin 100000) (o : Fin 1) (h : (b (ix1 p)).toNat < 2 ^ 31) :
    column n b (ix2 p o) = b (ix1 p) := by
  have hs : IntOp.cmpi .slt (b (ix1 p)) 0#32 ≠ 1#1 := by
    rw [Ne, StableHlo.Predicate.slt_iff_toNat h (by simp)]; simp
  unfold column
  pointwise
  exact if_neg hs

/-- When every index is at most `hi`, the test holds everywhere. -/
theorem inside_apply (n hi : BitVec 32) (b : IVec S100000 32) (hhi : hi.toNat < 2 ^ 31)
    (h : ∀ p : Fin 100000, (b (ix1 p)).toNat ≤ hi.toNat) (j : S100000.Idx) : inside hi (column n b) j = 1#1 := by
  refine Host.reduce_andi_one _ _ _ _ _ rfl fun i => ?_
  idx_vars i
  have hb : (b (ix1 i0)).toNat < 2 ^ 31 := (h i0).trans_lt hhi
  have hc := column_apply n b i0 i1 hb
  pointwise
  rw [hc]
  rw [(StableHlo.Predicate.sge_iff_toNat hb (by simp)).mpr (by simp), (StableHlo.Predicate.sle_iff_toNat hb hhi).mpr (h i0)]
  rfl

/-- The label of node `p` is its graph's row of the field table. -/
theorem labels_apply (fld : FVec Ideal S64x3 .f32) (b : IVec S100000 32) (h : ∀ p : Fin 100000, (b (ix1 p)).toNat < 64)
    (p : Fin 100000) (k : Fin 3) : labels fld b (ix2 p k) = fld (ix2 ⟨(b (ix1 p)).toNat, h p⟩ k) := by
  unfold labels
  pointwise
  rw [inside_apply 64#32 63#32 b (by decide) fun q => by have := h q; show _ ≤ 63; omega]
  refine Eq.trans ?_ (Routing.gather_row gather_S64x3_S100000x1_S100000x3_1_0_n_n_0_1_13 rfl rfl rfl rfl rfl fld (column 64#32 b) p k
    ⟨(b (ix1 p)).toNat, h p⟩ ?_ (by decide))
  · rfl
  · refine (column_apply 64#32 b p 0 ((h p).trans (by decide))).trans ?_
    simp

/-- The weight taken at node `p` is the element's, when every position given is below five. -/
theorem weights_apply (w : FVec Ideal S5 .f32) (e : IVec S100000 32)
    (h : ∀ p : Fin 100000, ∃ i : Fin 5, e (ix1 p) = BitVec.ofNat 32 i) (p : Fin 100000) (i : Fin 5)
    (hi : e (ix1 p) = BitVec.ofNat 32 i) : weights w e (ix1 p) = w (ix1 i) := by
  have hs : ∀ q : Fin 100000, (e (ix1 q)).toNat ≤ 4 := fun q => by
    obtain ⟨i, hi⟩ := h q
    rw [hi, BitVec.toNat_ofNat, Nat.mod_eq_of_lt (i.isLt.trans (by decide))]
    exact Nat.le_of_lt_succ i.isLt
  unfold weights
  pointwise
  rw [inside_apply 5#32 4#32 e (by decide) hs]
  refine Eq.trans ?_ (Routing.gather_take1 gather_S5_S100000x1_S100000_n_0_n_n_0_1_1 rfl rfl rfl rfl w (column 5#32 e) p
    i ?_ (by decide))
  · rfl
  · exact (column_apply 5#32 e p 0 ((hs p).trans_lt (by decide))).trans hi

/-- The reducer keeps the better of two pairs. -/
theorem reducer_eq (p q : EReal × BitVec 32) : reducer_argmax_f32_i32 (F := Ideal) p q = Cert.Weight.better p q := by
  unfold reducer_argmax_f32_i32 Cert.Weight.better
  pointwise
  by_cases h1 : q.1 < p.1 <;> by_cases h2 : p.1 = q.1 <;> cases h3 : p.2.slt q.2 <;>
    simp [h1, h2, h3, IntOp.cmpi, IntOp.ori, IntOp.andi, Scalar.select]

/-- The pairs the fold of node `p` meets, in order. -/
theorem fiber_eq (a : FVec Ideal S100000x5 .f32) (y : IVec S100000x5 32) (p : Fin 100000) :
    Host.argReduceFiber a y reducesTo_S100000x5_S100000_d1 (ix1 p)
      = (List.finRange 5).map fun e => (a (ix2 p e), y (ix2 p e)) := by
  have hdrop : ∀ i : S100000x5.Idx, reducesTo_S100000x5_S100000_d1.drop i = ix1 p ↔ i 0 = p := by
    intro i
    have hv : (reducesTo_S100000x5_S100000_d1.drop i 0 : Nat) = i 0 := Shape.ReducesTo.drop_apply_val _ i 0
    constructor
    · intro e; rw [e] at hv; exact Fin.ext hv.symm
    · intro e; funext b; have hb : b = 0 := Subsingleton.elim _ _; subst hb; exact Fin.ext (by rw [hv, e]; rfl)
  have hl : ((List.finRange S100000x5.numel).filter fun n =>
      reducesTo_S100000x5_S100000_d1.drop (S100000x5.rowMajor.symm n) = ix1 p)
      = (List.finRange 5).map fun e => S100000x5.rowMajor (ix2 p e) := by
    refine List.Perm.eq_of_pairwise (le := (· < ·)) (fun x y _ _ h h' => absurd h (lt_asymm h')) ?_ ?_ ?_
    · exact (List.pairwise_lt_finRange _).filter _
    · refine List.pairwise_map.mpr ((List.pairwise_lt_finRange 5).imp fun {x y} h => ?_)
      show (S100000x5.rowMajor (ix2 p x)).val < (S100000x5.rowMajor (ix2 p y)).val
      rw [Shape.rowMajor_val_two, Shape.rowMajor_val_two]
      show _ + (x : ℕ) < _ + (y : ℕ)
      have : (x : ℕ) < y := h
      exact Nat.add_lt_add_left this _
    · refine (List.perm_ext_iff_of_nodup ((List.nodup_finRange _).filter _) ?_).mpr fun n => ?_
      · refine (List.nodup_finRange 5).map fun x y h => ?_
        have h' := congrFun (S100000x5.rowMajor.injective h) 1
        exact h'
      · simp only [List.mem_filter, List.mem_finRange, true_and, decide_eq_true_eq, hdrop, List.mem_map]
        constructor
        · intro h
          refine ⟨S100000x5.rowMajor.symm n 1, ?_⟩
          rw [← h]
          refine (congrArg _ (eq_ix2 _).symm).trans ?_
          exact Equiv.apply_symm_apply _ _
        · rintro ⟨e, rfl⟩
          rw [Equiv.symm_apply_apply]; rfl
  unfold Host.argReduceFiber
  rw [hl, List.map_map]
  refine List.map_congr_left fun e _ => ?_
  show (a (S100000x5.rowMajor.symm (S100000x5.rowMajor (ix2 p e))), y (S100000x5.rowMajor.symm (S100000x5.rowMajor (ix2 p e)))) = _
  rw [Equiv.symm_apply_apply]

/-- The position found for node `p` is below five, and the weight there is the chosen one. -/
theorem largest_apply (a : FVec Ideal S100000x5 .f32) (p : Fin 100000) :
    ∃ i : Fin 5, largest a (ix1 p) = BitVec.ofNat 32 i
      ∧ ∀ w : Fin 5 → EReal, w i = Cert.Weight.chosen (fun e => a (ix2 p e)) w := by
  obtain ⟨i, hi, hw⟩ := Cert.Weight.fold_first fun e => a (ix2 p e)
  refine ⟨i, ?_, hw⟩
  rw [← hi]
  unfold largest
  rw [Ideal.argReduce_eq_reduce2, Host.reduce2_eq_foldl_fiber, fiber_eq]
  rw [show (reducer_argmax_f32_i32 (F := Ideal)) = Cert.Weight.better from funext fun p => funext fun q => reducer_eq p q]
  rw [← Cert.Weight.floor_eq]
  rfl

/-- The reference's result at node `p`, channel `d`, component `k`. -/
theorem value_apply (b : IVec S100000 32) (x : FVec Ideal S100000x128x3 .f32) (a : FVec Ideal S100000x5 .f32)
    (fld : FVec Ideal S64x3 .f32) (w : FVec Ideal S5 .f32) (cw : FVec Ideal S128 .f32)
    (h : ∀ p : Fin 100000, (b (ix1 p)).toNat < 64) (p : Fin 100000) (d : Fin 128) (k : Fin 3) :
    value b x a fld w cw (ix3 p d k)
      = x (ix3 p d k) + fld (ix2 ⟨(b (ix1 p)).toNat, h p⟩ k)
          * Cert.Weight.chosen (fun e => a (ix2 p e)) (fun e => w (ix1 e)) * cw (ix1 d) := by
  obtain ⟨i, hi, hw⟩ := largest_apply a p
  have hwt := weights_apply w (largest a) (fun q => (largest_apply a q).imp fun _ h => h.1) p i hi
  have hlb := labels_apply fld b h p k
  unfold value
  generalize weights w (largest a) = W at *
  generalize labels fld b = L at *
  rw [← hw fun e => w (ix1 e), ← hwt, ← hlb]
  pointwise

end Cert.ReferenceIdeal.Run

end
-- ==== Proof.Equation.lean ====
/- The equation: under the range of the batch numbers, a result entry of the kernel is the reference's. The kernel's sum
   over the table's rows has one summand that is not zero, the row of the node's batch number. -/
module

public import proofs.«01_k».proof.Proof.ArrayValue
public import proofs.«01_k».proof.Proof.RefValue
public import proofs.«01_k».proof.Proof.Gen.Pre_in_range

@[expose] public section

set_option maxRecDepth 16384

noncomputable section

namespace Cert.Equation

open Idealize.ShloMosaic

/-- A number that is at least 0 and below 64 when read signed is below 64. -/
theorem lt_of_cmp (v : BitVec 32) (h0 : IntOp.cmpi .sge v 0#32 = 1#1) (h1 : IntOp.cmpi .slt v 64#32 = 1#1) : v.toNat < 64 := by
  unfold IntOp.cmpi at h0 h1
  simp [BitVec.sle_eq_decide, BitVec.slt_eq_decide, BitVec.toInt_eq_toNat_cond] at h0 h1
  have one : ∀ t : Bool, BitVec.ofBool t = 1#1 → t = true := by decide
  have c0 := of_decide_eq_true (one _ h0)
  have c1 := of_decide_eq_true (one _ h1)
  split at c0 <;> split at c1 <;> omega

/-- What the precondition says: every batch number is below 64. -/
theorem range_of_pre (b : IVec Cert.KernelIdeal.S100000 32) (x : FVec Ideal Cert.KernelIdeal.S100000x128x3 .f32)
    (a : FVec Ideal Cert.KernelIdeal.S100000x5 .f32) (fld : FVec Ideal Cert.KernelIdeal.S64x3 .f32)
    (w : FVec Ideal Cert.KernelIdeal.S5 .f32) (cw : FVec Ideal Cert.KernelIdeal.S128 .f32)
    (h : letI := Cert.Pre_in_range.Gen.facts; Cert.Pre_in_range.fn (F := Ideal) b x a fld w cw = fun _ => 1#1)
    (p : Fin 100000) : (b (ix1 p)).toNat < 64 := by
  have e := Host.reduce_andi_all _ _ _ _ _ (congrFun h ix0) (ix1 p)
  have h0 : IntOp.cmpi .sge (b (ix1 p)) 0#32 = 1#1 ∧ IntOp.cmpi .slt (b (ix1 p)) 64#32 = 1#1 := by
    have e' : IntOp.andi (IntOp.cmpi .sge (b (ix1 p)) 0#32) (IntOp.cmpi .slt (b (ix1 p)) 64#32) = 1#1 := e
    generalize IntOp.cmpi .sge (b (ix1 p)) 0#32 = u at e' ⊢
    generalize IntOp.cmpi .slt (b (ix1 p)) 64#32 = v at e' ⊢
    revert u v
    decide
  exact lt_of_cmp _ h0.1 h0.2

/-- The kernel's entry is the reference's. -/
theorem entry_eq (b : IVec Cert.KernelIdeal.S100000 32) (x : FVec Ideal Cert.KernelIdeal.S100000x128x3 .f32)
    (a : FVec Ideal Cert.KernelIdeal.S100000x5 .f32) (fld : FVec Ideal Cert.KernelIdeal.S64x3 .f32)
    (w : FVec Ideal Cert.KernelIdeal.S5 .f32) (cw : FVec Ideal Cert.KernelIdeal.S128 .f32)
    (h : ∀ p : Fin 100000, (b (ix1 p)).toNat < 64) (p : Fin 100000) (d : Fin 128) (k : Fin 3) :
    Cert.KernelIdeal.Host.entry b x a fld w cw k p d = Cert.ReferenceIdeal.Run.value b x a fld w cw (ix3 p d k) := by
  refine Eq.trans ?_ (Cert.ReferenceIdeal.Run.value_apply b x a fld w cw h p d k).symm
  unfold Cert.KernelIdeal.Host.entry
  refine congrArg (fun s : EReal => x (ix3 p d k) + s) ?_
  rw [Finset.sum_eq_single (⟨(b (ix1 p)).toNat, h p⟩ : Fin 64)]
  · rw [if_pos (by simp)]
    generalize (fld (ix2 ⟨(b (ix1 p)).toNat, h p⟩ k) : EReal) = u
    generalize (Cert.Weight.chosen (fun e => a (ix2 p e)) fun e => w (ix1 e) : EReal) = s
    generalize (cw (ix1 d) : EReal) = v
    rw [← mul_assoc, mul_comm s u]
  · intro g _ hg
    rw [if_neg, zero_mul]
    intro e
    refine hg (Fin.ext ?_)
    show (g : ℕ) = (b (ix1 p)).toNat
    rw [← e, BitVec.toNat_ofNat, Nat.mod_eq_of_lt (by omega)]
  · intro hn
    exact absurd (Finset.mem_univ _) hn

end Cert.Equation

end
-- ==== Proof.lean ====
/- The proof of the certificate's claims: the three programs run and leave their arguments unchanged with every counter at
   zero, and, for batch numbers in range, the idealized kernel's result is the idealized reference's. -/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.Pre_in_range
public import proofs.«01_k».proof.Proof.FrameKernel
public import proofs.«01_k».proof.Proof.RunIdeal
public import proofs.«01_k».proof.Proof.RefRun
public import proofs.«01_k».proof.Proof.Equation
public import Idealize.ShloMosaic.Adequacy
public import Idealize.ShloMosaic.Init

@[expose] public section

noncomputable section

namespace Cert.Proof

open Idealize.ShloMosaic Idealize.SL.Sem
open Idealize.ShloMosaic.TcCoe

/-- The kernel's frame. -/
theorem kernel : letI := Cert.Kernel.Gen.facts; Cert.quiescent_Kernel :=
  fun m g _ => Cert.Kernel.Body.unchanged m g

/-- The idealized kernel's frame, from any memory. -/
theorem kernelIdeal : letI := Cert.KernelIdeal.Gen.facts; Cert.quiescent_KernelIdeal :=
  fun m g _ => (θ_run Cert.KernelIdeal.defs _ _).mono (fun _ h => ⟨fun c => (h.1 c).2, h.2⟩) (Cert.KernelIdeal.Body.run m g)

/-- The same under the precondition. -/
theorem kernelIdeal_in_range : letI := Cert.KernelIdeal.Gen.facts; letI := Cert.Pre_in_range.Gen.facts;
    Cert.quiescent_KernelIdeal_pre_in_range :=
  fun m g _ => kernelIdeal m g trivial

/-- The idealized reference's frame, from any memory. -/
theorem referenceIdeal : letI := Cert.ReferenceIdeal.Gen.facts; Cert.quiescent_ReferenceIdeal :=
  fun m g _ => Cert.ReferenceIdeal.Run.unchanged m g

/-- The same under the precondition. -/
theorem referenceIdeal_in_range : letI := Cert.ReferenceIdeal.Gen.facts; letI := Cert.Pre_in_range.Gen.facts;
    Cert.quiescent_ReferenceIdeal_pre_in_range :=
  fun m g _ => Cert.ReferenceIdeal.Run.unchanged m g

/-- On equal arguments, batch numbers in range, the two idealized programs end with equal results. -/
theorem algebraic : letI := Cert.KernelIdeal.Gen.facts; letI := Cert.ReferenceIdeal.Gen.facts; letI := Cert.Pre_in_range.Gen.facts;
    Cert.algebraic_KernelIdeal_ReferenceIdeal_pre_in_range := by
  intro m g m' g' hpre hargs
  refine ⟨fun c => Cert.ReferenceIdeal.Run.value (Cert.KernelIdeal.Host.batch m c) (Cert.KernelIdeal.Host.feats m c)
    (Cert.KernelIdeal.Host.attrs m c) (Cert.KernelIdeal.Host.field m c) (Cert.KernelIdeal.Host.edges m c)
    (Cert.KernelIdeal.Host.chans m c), ?_, ?_⟩
  · refine (θ_run Cert.KernelIdeal.defs _ _).mono (fun r h c => ⟨(h.1 c).1.trans ?_, (h.1 c).2⟩) (Cert.KernelIdeal.Body.run m g)
    funext (i : Cert.KernelIdeal.S100000x128x3.Idx)
    idx_vars i
    exact (Cert.KernelIdeal.Host.result_value m c i0 i1 i2).trans
      (Cert.Equation.entry_eq _ _ _ _ _ _ (Cert.Equation.range_of_pre _ _ _ _ _ _ (hpre c)) i0 i1 i2)
  · refine (θ_run Cert.ReferenceIdeal.defs _ _).mono (fun r h c => ⟨(h c).1.trans ?_, (h c).2⟩) (Cert.ReferenceIdeal.Run.run m' g')
    obtain ⟨e0, e1, e2, e3, e4, e5⟩ := hargs c
    rw [e0, e1, e2, e3, e4, e5]

theorem claim : Cert.Claim := ⟨Cert.Kernel.Gen.facts, Cert.KernelIdeal.Gen.facts, Cert.ReferenceIdeal.Gen.facts,
  Cert.Pre_in_range.Gen.facts, kernel, kernelIdeal, kernelIdeal_in_range, referenceIdeal, referenceIdeal_in_range, trivial, algebraic⟩

end Cert.Proof

end
